-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  IdealRules.named_const.Statement Cert.KernelIdeal.κ "s" .f32 0x3D64F92E#32 (((Real.sqrt 320)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x128x256 : Shape := ⟨3, ![4, 128, 256]⟩
abbrev S4x128x3 : Shape := ⟨3, ![4, 128, 3]⟩
abbrev S2x513x128 : Shape := ⟨3, ![2, 513, 128]⟩
abbrev S2x128 : Shape := ⟨2, ![2, 128]⟩
abbrev S2x128x128 : Shape := ⟨3, ![2, 128, 128]⟩
abbrev S2x128x1 : Shape := ⟨3, ![2, 128, 1]⟩
abbrev S2x384x128 : Shape := ⟨3, ![2, 384, 128]⟩
abbrev S2x128x256 : Shape := ⟨3, ![2, 128, 256]⟩
abbrev S2x256 : Shape := ⟨2, ![2, 256]⟩
abbrev S64 : Shape := ⟨1, ![64]⟩
abbrev S320x320 : Shape := ⟨2, ![320, 320]⟩
abbrev S320 : Shape := ⟨1, ![320]⟩
abbrev S320x1 : Shape := ⟨2, ![320, 1]⟩
abbrev S1 : Shape := ⟨1, ![1]⟩
abbrev S_ : Shape := ⟨0, ![]⟩
abbrev S4x128x128 : Shape := ⟨3, ![4, 128, 128]⟩
abbrev S2x256x128 : Shape := ⟨3, ![2, 256, 128]⟩
abbrev S2x1x128 : Shape := ⟨3, ![2, 1, 128]⟩
abbrev S2x1x256 : Shape := ⟨3, ![2, 1, 256]⟩
abbrev S1x64 : Shape := ⟨2, ![1, 64]⟩
abbrev S1x320 : Shape := ⟨2, ![1, 320]⟩
abbrev S1x1 : Shape := ⟨2, ![1, 1]⟩
abbrev S64x320 : Shape := ⟨2, ![64, 320]⟩
abbrev S256x320 : Shape := ⟨2, ![256, 320]⟩
abbrev S4x1x128 : Shape := ⟨3, ![4, 1, 128]⟩
abbrev S1x128x256 : Shape := ⟨3, ![1, 128, 256]⟩
abbrev S1x128x128 : Shape := ⟨3, ![1, 128, 128]⟩
abbrev S1x1x128 : Shape := ⟨3, ![1, 1, 128]⟩
abbrev S128x256 : Shape := ⟨2, ![128, 256]⟩
abbrev S128x128 : Shape := ⟨2, ![128, 128]⟩
abbrev S128x1 : Shape := ⟨2, ![128, 1]⟩
abbrev S1x128 : Shape := ⟨2, ![1, 128]⟩
abbrev S1x256x128 : Shape := ⟨3, ![1, 256, 128]⟩
abbrev S256x128 : Shape := ⟨2, ![256, 128]⟩
abbrev S128x1x128 : Shape := ⟨3, ![128, 1, 128]⟩
abbrev S128x128x128 : Shape := ⟨3, ![128, 128, 128]⟩
abbrev S128x128x1 : Shape := ⟨3, ![128, 128, 1]⟩
abbrev S128 : Shape := ⟨1, ![128]⟩
abbrev S1x1x256 : Shape := ⟨3, ![1, 1, 256]⟩
abbrev S1x256 : Shape := ⟨2, ![1, 256]⟩
abbrev S128x64 : Shape := ⟨2, ![128, 64]⟩
abbrev S128x320 : Shape := ⟨2, ![128, 320]⟩
abbrev S1x1x320 : Shape := ⟨3, ![1, 1, 320]⟩
abbrev S1x1x1 : Shape := ⟨3, ![1, 1, 1]⟩
abbrev S4x1x1 : Shape := ⟨3, ![4, 1, 1]⟩
abbrev S4x1 : Shape := ⟨2, ![4, 1]⟩
abbrev S1x4 : Shape := ⟨2, ![1, 4]⟩

abbrev nBuf : Space → Nat
  | .hbm => 58
  | .vmem => 33
  | .smem => 0
  | _ => 0

abbrev bufTy : (tb : Table) → Fin (tcTables nBuf tb) → BufTy
  | .hbm, ⟨0, _⟩ => ⟨S4x128x256, .f32⟩
  | .hbm, ⟨1, _⟩ => ⟨S4x128x3, .f32⟩
  | .hbm, ⟨2, _⟩ => ⟨S2x513x128, .f32⟩
  | .hbm, ⟨3, _⟩ => ⟨S2x128, .f32⟩
  | .hbm, ⟨4, _⟩ => ⟨S2x128x128, .f32⟩
  | .hbm, ⟨5, _⟩ => ⟨S2x128, .f32⟩
  | .hbm, ⟨6, _⟩ => ⟨S2x128x1, .f32⟩
  | .hbm, ⟨7, _⟩ => ⟨S2x384x128, .f32⟩
  | .hbm, ⟨8, _⟩ => ⟨S2x128, .f32⟩
  | .hbm, ⟨9, _⟩ => ⟨S2x128x256, .f32⟩
  | .hbm, ⟨10, _⟩ => ⟨S2x256, .f32⟩
  | .hbm, ⟨11, _⟩ => ⟨S64, .f32⟩
  | .hbm, ⟨12, _⟩ => ⟨S64, .f32⟩
  | .hbm, ⟨13, _⟩ => ⟨S320x320, .f32⟩
  | .hbm, ⟨14, _⟩ => ⟨S320, .f32⟩
  | .hbm, ⟨15, _⟩ => ⟨S320x320, .f32⟩
  | .hbm, ⟨16, _⟩ => ⟨S320, .f32⟩
  | .hbm, ⟨17, _⟩ => ⟨S320x320, .f32⟩
  | .hbm, ⟨18, _⟩ => ⟨S320, .f32⟩
  | .hbm, ⟨19, _⟩ => ⟨S320x320, .f32⟩
  | .hbm, ⟨20, _⟩ => ⟨S320, .f32⟩
  | .hbm, ⟨21, _⟩ => ⟨S320x1, .f32⟩
  | .hbm, ⟨22, _⟩ => ⟨S1, .f32⟩
  | .hbm, ⟨23, _⟩ => ⟨S_, .i32⟩
  | .hbm, ⟨24, _⟩ => ⟨S_, .f32⟩
  | .hbm, ⟨25, _⟩ => ⟨S4x128x128, .f32⟩
  | .hbm, ⟨26, _⟩ => ⟨S2x256x128, .f32⟩
  | .hbm, ⟨27, _⟩ => ⟨S2x256x128, .f32⟩
  | .hbm, ⟨28, _⟩ => ⟨S2x1x128, .f32⟩
  | .hbm, ⟨29, _⟩ => ⟨S2x128, .f32⟩
  | .hbm, ⟨30, _⟩ => ⟨S2x1x128, .f32⟩
  | .hbm, ⟨31, _⟩ => ⟨S2x1x128, .f32⟩
  | .hbm, ⟨32, _⟩ => ⟨S2x1x128, .f32⟩
  | .hbm, ⟨33, _⟩ => ⟨S2x128, .f32⟩
  | .hbm, ⟨34, _⟩ => ⟨S2x1x128, .f32⟩
  | .hbm, ⟨35, _⟩ => ⟨S2x256x128, .f32⟩
  | .hbm, ⟨36, _⟩ => ⟨S2x128x128, .f32⟩
  | .hbm, ⟨37, _⟩ => ⟨S2x1x128, .f32⟩
  | .hbm, ⟨38, _⟩ => ⟨S2x1x256, .f32⟩
  | .hbm, ⟨39, _⟩ => ⟨S1x64, .f32⟩
  | .hbm, ⟨40, _⟩ => ⟨S1x64, .f32⟩
  | .hbm, ⟨41, _⟩ => ⟨S320, .f32⟩
  | .hbm, ⟨42, _⟩ => ⟨S1x320, .f32⟩
  | .hbm, ⟨43, _⟩ => ⟨S1x1, .f32⟩
  | .hbm, ⟨44, _⟩ => ⟨S64x320, .f32⟩
  | .hbm, ⟨45, _⟩ => ⟨S256x320, .f32⟩
  | .hbm, ⟨46, _⟩ => ⟨S1x320, .f32⟩
  | .hbm, ⟨47, _⟩ => ⟨S64x320, .f32⟩
  | .hbm, ⟨48, _⟩ => ⟨S256x320, .f32⟩
  | .hbm, ⟨49, _⟩ => ⟨S1x320, .f32⟩
  | .hbm, ⟨50, _⟩ => ⟨S64x320, .f32⟩
  | .hbm, ⟨51, _⟩ => ⟨S256x320, .f32⟩
  | .hbm, ⟨52, _⟩ => ⟨S1x320, .f32⟩
  | .hbm, ⟨53, _⟩ => ⟨S1x320, .f32⟩
  | .hbm, ⟨54, _⟩ => ⟨S4x1x128, .f32⟩
  | .hbm, ⟨55, _⟩ => ⟨S4x1x1, .f32⟩
  | .hbm, ⟨56, _⟩ => ⟨S4x1, .f32⟩
  | .hbm, ⟨57, _⟩ => ⟨S1x4, .f32⟩
  | .local _ .vmem, ⟨0, _⟩ => ⟨S1x128x256, .f32⟩
  | .local _ .vmem, ⟨1, _⟩ => ⟨S1x128x256, .f32⟩
  | .local _ .vmem, ⟨2, _⟩ => ⟨S1x128x128, .f32⟩
  | .local _ .vmem, ⟨3, _⟩ => ⟨S1x128x128, .f32⟩
  | .local _ .vmem, ⟨4, _⟩ => ⟨S2x256x128, .f32⟩
  | .local _ .vmem, ⟨5, _⟩ => ⟨S2x256x128, .f32⟩
  | .local _ .vmem, ⟨6, _⟩ => ⟨S2x1x128, .f32⟩
  | .local _ .vmem, ⟨7, _⟩ => ⟨S2x1x128, .f32⟩
  | .local _ .vmem, ⟨8, _⟩ => ⟨S2x128x128, .f32⟩
  | .local _ .vmem, ⟨9, _⟩ => ⟨S2x1x128, .f32⟩
  | .local _ .vmem, ⟨10, _⟩ => ⟨S2x1x128, .f32⟩
  | .local _ .vmem, ⟨11, _⟩ => ⟨S2x256x128, .f32⟩
  | .local _ .vmem, ⟨12, _⟩ => ⟨S2x128x128, .f32⟩
  | .local _ .vmem, ⟨13, _⟩ => ⟨S2x1x128, .f32⟩
  | .local _ .vmem, ⟨14, _⟩ => ⟨S2x128x256, .f32⟩
  | .local _ .vmem, ⟨15, _⟩ => ⟨S2x1x256, .f32⟩
  | .local _ .vmem, ⟨16, _⟩ => ⟨S1x64, .f32⟩
  | .local _ .vmem, ⟨17, _⟩ => ⟨S1x64, .f32⟩
  | .local _ .vmem, ⟨18, _⟩ => ⟨S64x320, .f32⟩
  | .local _ .vmem, ⟨19, _⟩ => ⟨S256x320, .f32⟩
  | .local _ .vmem, ⟨20, _⟩ => ⟨S1x320, .f32⟩
  | .local _ .vmem, ⟨21, _⟩ => ⟨S64x320, .f32⟩
  | .local _ .vmem, ⟨22, _⟩ => ⟨S256x320, .f32⟩
  | .local _ .vmem, ⟨23, _⟩ => ⟨S1x320, .f32⟩
  | .local _ .vmem, ⟨24, _⟩ => ⟨S64x320, .f32⟩
  | .local _ .vmem, ⟨25, _⟩ => ⟨S256x320, .f32⟩
  | .local _ .vmem, ⟨26, _⟩ => ⟨S1x320, .f32⟩
  | .local _ .vmem, ⟨27, _⟩ => ⟨S320x320, .f32⟩
  | .local _ .vmem, ⟨28, _⟩ => ⟨S1x320, .f32⟩
  | .local _ .vmem, ⟨29, _⟩ => ⟨S1x320, .f32⟩
  | .local _ .vmem, ⟨30, _⟩ => ⟨S1x1, .f32⟩
  | .local _ .vmem, ⟨31, _⟩ => ⟨S1x1x128, .f32⟩
  | .local _ .vmem, ⟨32, _⟩ => ⟨S1x1x128, .f32⟩
  | _, _ => ⟨S4x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_call0_v0 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg29_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem29_1 : DmaSem sig := 32

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x320 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x320 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x320 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x320 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x320 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x320 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x320 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x320 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x320 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S320x320 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x320 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x320 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S1x1x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== KernelIdeal.lean ====
variable {F : FTy → Type} [FloatOps F] [Named F]
def κ : String → Option EReal := fun
  | "s" => some (((Real.sqrt 320)⁻¹ : ℝ) : EReal)
  | _ => none
-- ==== ReferenceIdeal.lean ====
abbrev S4x128x256 : Shape := ⟨3, ![4, 128, 256]⟩
abbrev S4x128x3 : Shape := ⟨3, ![4, 128, 3]⟩
abbrev S2x513x128 : Shape := ⟨3, ![2, 513, 128]⟩
abbrev S2x128 : Shape := ⟨2, ![2, 128]⟩
abbrev S2x128x128 : Shape := ⟨3, ![2, 128, 128]⟩
abbrev S2x128x1 : Shape := ⟨3, ![2, 128, 1]⟩
abbrev S2x384x128 : Shape := ⟨3, ![2, 384, 128]⟩
abbrev S2x128x256 : Shape := ⟨3, ![2, 128, 256]⟩
abbrev S2x256 : Shape := ⟨2, ![2, 256]⟩
abbrev S64 : Shape := ⟨1, ![64]⟩
abbrev S320x320 : Shape := ⟨2, ![320, 320]⟩
abbrev S320 : Shape := ⟨1, ![320]⟩
abbrev S320x1 : Shape := ⟨2, ![320, 1]⟩
abbrev S1 : Shape := ⟨1, ![1]⟩
abbrev S4x128x1x3 : Shape := ⟨4, ![4, 128, 1, 3]⟩
abbrev S4x1x128x3 : Shape := ⟨4, ![4, 1, 128, 3]⟩
abbrev S4x128x128x3 : Shape := ⟨4, ![4, 128, 128, 3]⟩
abbrev S_ : Shape := ⟨0, ![]⟩
abbrev S4x128x128 : Shape := ⟨3, ![4, 128, 128]⟩
abbrev S4x128x128x1 : Shape := ⟨4, ![4, 128, 128, 1]⟩
abbrev S4x128x1x256 : Shape := ⟨4, ![4, 128, 1, 256]⟩
abbrev S4x128x128x256 : Shape := ⟨4, ![4, 128, 128, 256]⟩
abbrev S4x1x128x256 : Shape := ⟨4, ![4, 1, 128, 256]⟩
abbrev S4x128x128x513 : Shape := ⟨4, ![4, 128, 128, 513]⟩
abbrev S1x513x128 : Shape := ⟨3, ![1, 513, 128]⟩
abbrev S513x128 : Shape := ⟨2, ![513, 128]⟩
abbrev S4x128x128x128 : Shape := ⟨4, ![4, 128, 128, 128]⟩
abbrev S1x128 : Shape := ⟨2, ![1, 128]⟩
abbrev S128 : Shape := ⟨1, ![128]⟩
abbrev S1x1x1x128 : Shape := ⟨4, ![1, 1, 1, 128]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S4x128x384 : Shape := ⟨3, ![4, 128, 384]⟩
abbrev S1x384x128 : Shape := ⟨3, ![1, 384, 128]⟩
abbrev S384x128 : Shape := ⟨2, ![384, 128]⟩
abbrev S1x1x128 : Shape := ⟨3, ![1, 1, 128]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x1x256 : Shape := ⟨3, ![1, 1, 256]⟩
abbrev S4x3 : Shape := ⟨2, ![4, 3]⟩
abbrev S4x1x3 : Shape := ⟨3, ![4, 1, 3]⟩
abbrev S4x128 : Shape := ⟨2, ![4, 128]⟩
abbrev S4x128x1 : Shape := ⟨3, ![4, 128, 1]⟩
abbrev S1x1x64 : Shape := ⟨3, ![1, 1, 64]⟩
abbrev S4x128x64 : Shape := ⟨3, ![4, 128, 64]⟩
abbrev S4x128x320 : Shape := ⟨3, ![4, 128, 320]⟩
abbrev S1x1x320 : Shape := ⟨3, ![1, 1, 320]⟩
abbrev S4x320x128 : Shape := ⟨3, ![4, 320, 128]⟩
abbrev S4x320 : Shape := ⟨2, ![4, 320]⟩
abbrev S4x1 : Shape := ⟨2, ![4, 1]⟩
abbrev S1x1 : Shape := ⟨2, ![1, 1]⟩
abbrev S1x4 : Shape := ⟨2, ![1, 4]⟩

abbrev nBuf : Space → Nat
  | .hbm => 283
  | .vmem => 0
  | .smem => 0
  | _ => 0

abbrev hbmTy0_0 (i : Nat) : BufTy := match i % 128 with
  | 0 => ⟨S4x128x256, .f32⟩
  | 1 => ⟨S4x128x3, .f32⟩
  | 2 => ⟨S2x513x128, .f32⟩
  | 3 => ⟨S2x128, .f32⟩
  | 4 => ⟨S2x128x128, .f32⟩
  | 5 => ⟨S2x128, .f32⟩
  | 6 => ⟨S2x128x1, .f32⟩
  | 7 => ⟨S2x384x128, .f32⟩
  | 8 => ⟨S2x128, .f32⟩
  | 9 => ⟨S2x128x256, .f32⟩
  | 10 => ⟨S2x256, .f32⟩
  | 11 => ⟨S64, .f32⟩
  | 12 => ⟨S64, .f32⟩
  | 13 => ⟨S320x320, .f32⟩
  | 14 => ⟨S320, .f32⟩
  | 15 => ⟨S320x320, .f32⟩
  | 16 => ⟨S320, .f32⟩
  | 17 => ⟨S320x320, .f32⟩
  | 18 => ⟨S320, .f32⟩
  | 19 => ⟨S320x320, .f32⟩
  | 20 => ⟨S320, .f32⟩
  | 21 => ⟨S320x1, .f32⟩
  | 22 => ⟨S1, .f32⟩
  | 23 => ⟨S4x128x1x3, .f32⟩
  | 24 => ⟨S4x1x128x3, .f32⟩
  | 25 => ⟨S4x128x128x3, .f32⟩
  | 26 => ⟨S4x128x128x3, .f32⟩
  | 27 => ⟨S4x128x128x3, .f32⟩
  | 28 => ⟨S4x128x128x3, .f32⟩
  | 29 => ⟨S_, .f32⟩
  | 30 => ⟨S4x128x128, .f32⟩
  | 31 => ⟨S4x128x128x1, .f32⟩
  | 32 => ⟨S4x128x1x256, .f32⟩
  | 33 => ⟨S4x128x128x256, .f32⟩
  | 34 => ⟨S4x1x128x256, .f32⟩
  | 35 => ⟨S4x128x128x256, .f32⟩
  | 36 => ⟨S4x128x128x513, .f32⟩
  | 37 => ⟨S1x513x128, .f32⟩
  | 38 => ⟨S513x128, .f32⟩
  | 39 => ⟨S4x128x128x128, .f32⟩
  | 40 => ⟨S1x128, .f32⟩
  | 41 => ⟨S128, .f32⟩
  | 42 => ⟨S1x1x1x128, .f32⟩
  | 43 => ⟨S4x128x128x128, .f32⟩
  | 44 => ⟨S4x128x128x128, .f32⟩
  | 45 => ⟨S4x128x128x128, .f32⟩
  | 46 => ⟨S4x128x128x128, .f32⟩
  | 47 => ⟨S_, .f32⟩
  | 48 => ⟨S4x128x128x128, .f32⟩
  | 49 => ⟨S4x128x128x128, .f32⟩
  | 50 => ⟨S_, .f32⟩
  | 51 => ⟨S4x128x128x128, .f32⟩
  | 52 => ⟨S4x128x128x128, .f32⟩
  | 53 => ⟨S4x128x128x128, .f32⟩
  | 54 => ⟨S1x128x128, .f32⟩
  | 55 => ⟨S128x128, .f32⟩
  | 56 => ⟨S4x128x128x128, .f32⟩
  | 57 => ⟨S1x128, .f32⟩
  | 58 => ⟨S128, .f32⟩
  | 59 => ⟨S1x1x1x128, .f32⟩
  | 60 => ⟨S4x128x128x128, .f32⟩
  | 61 => ⟨S4x128x128x128, .f32⟩
  | 62 => ⟨S4x128x128x128, .f32⟩
  | 63 => ⟨S4x128x128x128, .f32⟩
  | 64 => ⟨S_, .f32⟩
  | 65 => ⟨S4x128x128x128, .f32⟩
  | 66 => ⟨S4x128x128x128, .f32⟩
  | 67 => ⟨S_, .f32⟩
  | 68 => ⟨S4x128x128x128, .f32⟩
  | 69 => ⟨S4x128x128x128, .f32⟩
  | 70 => ⟨S4x128x128x128, .f32⟩
  | 71 => ⟨S1x128x1, .f32⟩
  | 72 => ⟨S128x1, .f32⟩
  | 73 => ⟨S4x128x128x1, .f32⟩
  | 74 => ⟨S4x128x128x1, .f32⟩
  | 75 => ⟨S_, .f32⟩
  | 76 => ⟨S4x128x128x1, .f32⟩
  | 77 => ⟨S4x128x128x1, .f32⟩
  | 78 => ⟨S4x128x128x3, .f32⟩
  | 79 => ⟨S4x128x128x3, .f32⟩
  | 80 => ⟨S4x128x128x3, .f32⟩
  | 81 => ⟨S4x128x128x3, .f32⟩
  | 82 => ⟨S_, .f32⟩
  | 83 => ⟨S4x128x3, .f32⟩
  | 84 => ⟨S_, .f32⟩
  | 85 => ⟨S4x128x3, .f32⟩
  | 86 => ⟨S4x128x3, .f32⟩
  | 87 => ⟨S4x128x3, .f32⟩
  | 88 => ⟨S_, .f32⟩
  | 89 => ⟨S4x128x128, .f32⟩
  | 90 => ⟨S4x128x384, .f32⟩
  | 91 => ⟨S1x384x128, .f32⟩
  | 92 => ⟨S384x128, .f32⟩
  | 93 => ⟨S4x128x128, .f32⟩
  | 94 => ⟨S1x128, .f32⟩
  | 95 => ⟨S128, .f32⟩
  | 96 => ⟨S1x1x128, .f32⟩
  | 97 => ⟨S4x128x128, .f32⟩
  | 98 => ⟨S4x128x128, .f32⟩
  | 99 => ⟨S4x128x128, .f32⟩
  | 100 => ⟨S4x128x128, .f32⟩
  | 101 => ⟨S_, .f32⟩
  | 102 => ⟨S4x128x128, .f32⟩
  | 103 => ⟨S4x128x128, .f32⟩
  | 104 => ⟨S_, .f32⟩
  | 105 => ⟨S4x128x128, .f32⟩
  | 106 => ⟨S4x128x128, .f32⟩
  | 107 => ⟨S4x128x128, .f32⟩
  | 108 => ⟨S1x128x256, .f32⟩
  | 109 => ⟨S128x256, .f32⟩
  | 110 => ⟨S4x128x256, .f32⟩
  | 111 => ⟨S4x128x256, .f32⟩
  | 112 => ⟨S1x256, .f32⟩
  | 113 => ⟨S256, .f32⟩
  | 114 => ⟨S1x1x256, .f32⟩
  | 115 => ⟨S4x128x256, .f32⟩
  | 116 => ⟨S4x128x256, .f32⟩
  | 117 => ⟨S4x128x1x3, .f32⟩
  | 118 => ⟨S4x1x128x3, .f32⟩
  | 119 => ⟨S4x128x128x3, .f32⟩
  | 120 => ⟨S4x128x128x3, .f32⟩
  | 121 => ⟨S4x128x128x3, .f32⟩
  | 122 => ⟨S4x128x128x3, .f32⟩
  | 123 => ⟨S_, .f32⟩
  | 124 => ⟨S4x128x128, .f32⟩
  | 125 => ⟨S4x128x128x1, .f32⟩
  | 126 => ⟨S4x128x1x256, .f32⟩
  | 127 => ⟨S4x128x128x256, .f32⟩
  | _ => ⟨S4x128x256, .f32⟩

abbrev hbmTy0_1 (i : Nat) : BufTy := match i % 128 with
  | 0 => ⟨S4x1x128x256, .f32⟩
  | 1 => ⟨S4x128x128x256, .f32⟩
  | 2 => ⟨S4x128x128x513, .f32⟩
  | 3 => ⟨S1x513x128, .f32⟩
  | 4 => ⟨S513x128, .f32⟩
  | 5 => ⟨S4x128x128x128, .f32⟩
  | 6 => ⟨S1x128, .f32⟩
  | 7 => ⟨S128, .f32⟩
  | 8 => ⟨S1x1x1x128, .f32⟩
  | 9 => ⟨S4x128x128x128, .f32⟩
  | 10 => ⟨S4x128x128x128, .f32⟩
  | 11 => ⟨S4x128x128x128, .f32⟩
  | 12 => ⟨S4x128x128x128, .f32⟩
  | 13 => ⟨S_, .f32⟩
  | 14 => ⟨S4x128x128x128, .f32⟩
  | 15 => ⟨S4x128x128x128, .f32⟩
  | 16 => ⟨S_, .f32⟩
  | 17 => ⟨S4x128x128x128, .f32⟩
  | 18 => ⟨S4x128x128x128, .f32⟩
  | 19 => ⟨S4x128x128x128, .f32⟩
  | 20 => ⟨S1x128x128, .f32⟩
  | 21 => ⟨S128x128, .f32⟩
  | 22 => ⟨S4x128x128x128, .f32⟩
  | 23 => ⟨S1x128, .f32⟩
  | 24 => ⟨S128, .f32⟩
  | 25 => ⟨S1x1x1x128, .f32⟩
  | 26 => ⟨S4x128x128x128, .f32⟩
  | 27 => ⟨S4x128x128x128, .f32⟩
  | 28 => ⟨S4x128x128x128, .f32⟩
  | 29 => ⟨S4x128x128x128, .f32⟩
  | 30 => ⟨S_, .f32⟩
  | 31 => ⟨S4x128x128x128, .f32⟩
  | 32 => ⟨S4x128x128x128, .f32⟩
  | 33 => ⟨S_, .f32⟩
  | 34 => ⟨S4x128x128x128, .f32⟩
  | 35 => ⟨S4x128x128x128, .f32⟩
  | 36 => ⟨S4x128x128x128, .f32⟩
  | 37 => ⟨S1x128x1, .f32⟩
  | 38 => ⟨S128x1, .f32⟩
  | 39 => ⟨S4x128x128x1, .f32⟩
  | 40 => ⟨S4x128x128x1, .f32⟩
  | 41 => ⟨S_, .f32⟩
  | 42 => ⟨S4x128x128x1, .f32⟩
  | 43 => ⟨S4x128x128x1, .f32⟩
  | 44 => ⟨S4x128x128x3, .f32⟩
  | 45 => ⟨S4x128x128x3, .f32⟩
  | 46 => ⟨S4x128x128x3, .f32⟩
  | 47 => ⟨S4x128x128x3, .f32⟩
  | 48 => ⟨S_, .f32⟩
  | 49 => ⟨S4x128x3, .f32⟩
  | 50 => ⟨S_, .f32⟩
  | 51 => ⟨S4x128x3, .f32⟩
  | 52 => ⟨S4x128x3, .f32⟩
  | 53 => ⟨S4x128x3, .f32⟩
  | 54 => ⟨S_, .f32⟩
  | 55 => ⟨S4x128x128, .f32⟩
  | 56 => ⟨S4x128x384, .f32⟩
  | 57 => ⟨S1x384x128, .f32⟩
  | 58 => ⟨S384x128, .f32⟩
  | 59 => ⟨S4x128x128, .f32⟩
  | 60 => ⟨S1x128, .f32⟩
  | 61 => ⟨S128, .f32⟩
  | 62 => ⟨S1x1x128, .f32⟩
  | 63 => ⟨S4x128x128, .f32⟩
  | 64 => ⟨S4x128x128, .f32⟩
  | 65 => ⟨S4x128x128, .f32⟩
  | 66 => ⟨S4x128x128, .f32⟩
  | 67 => ⟨S_, .f32⟩
  | 68 => ⟨S4x128x128, .f32⟩
  | 69 => ⟨S4x128x128, .f32⟩
  | 70 => ⟨S_, .f32⟩
  | 71 => ⟨S4x128x128, .f32⟩
  | 72 => ⟨S4x128x128, .f32⟩
  | 73 => ⟨S4x128x128, .f32⟩
  | 74 => ⟨S1x128x256, .f32⟩
  | 75 => ⟨S128x256, .f32⟩
  | 76 => ⟨S4x128x256, .f32⟩
  | 77 => ⟨S4x128x256, .f32⟩
  | 78 => ⟨S1x256, .f32⟩
  | 79 => ⟨S256, .f32⟩
  | 80 => ⟨S1x1x256, .f32⟩
  | 81 => ⟨S4x128x256, .f32⟩
  | 82 => ⟨S4x128x256, .f32⟩
  | 83 => ⟨S_, .f32⟩
  | 84 => ⟨S4x3, .f32⟩
  | 85 => ⟨S4x1x3, .f32⟩
  | 86 => ⟨S_, .f32⟩
  | 87 => ⟨S4x1x3, .f32⟩
  | 88 => ⟨S4x1x3, .f32⟩
  | 89 => ⟨S4x128x3, .f32⟩
  | 90 => ⟨S4x128x3, .f32⟩
  | 91 => ⟨S4x128x3, .f32⟩
  | 92 => ⟨S_, .f32⟩
  | 93 => ⟨S4x128, .f32⟩
  | 94 => ⟨S4x128x1, .f32⟩
  | 95 => ⟨S_, .f32⟩
  | 96 => ⟨S4x128x1, .f32⟩
  | 97 => ⟨S4x128x1, .f32⟩
  | 98 => ⟨S4x128x1, .f32⟩
  | 99 => ⟨S64, .f32⟩
  | 100 => ⟨S1x1x64, .f32⟩
  | 101 => ⟨S4x128x64, .f32⟩
  | 102 => ⟨S4x128x64, .f32⟩
  | 103 => ⟨S4x128x64, .f32⟩
  | 104 => ⟨S4x128x64, .f32⟩
  | 105 => ⟨S1x1x64, .f32⟩
  | 106 => ⟨S4x128x64, .f32⟩
  | 107 => ⟨S4x128x64, .f32⟩
  | 108 => ⟨S4x128x64, .f32⟩
  | 109 => ⟨S4x128x320, .f32⟩
  | 110 => ⟨S4x128x320, .f32⟩
  | 111 => ⟨S1x1x320, .f32⟩
  | 112 => ⟨S4x128x320, .f32⟩
  | 113 => ⟨S4x128x320, .f32⟩
  | 114 => ⟨S4x128x320, .f32⟩
  | 115 => ⟨S1x1x320, .f32⟩
  | 116 => ⟨S4x128x320, .f32⟩
  | 117 => ⟨S4x128x320, .f32⟩
  | 118 => ⟨S4x128x320, .f32⟩
  | 119 => ⟨S1x1x320, .f32⟩
  | 120 => ⟨S4x128x320, .f32⟩
  | 121 => ⟨S4x128x320, .f32⟩
  | 122 => ⟨S4x320x128, .f32⟩
  | 123 => ⟨S4x128x128, .f32⟩
  | 124 => ⟨S_, .f32⟩
  | 125 => ⟨S_, .f32⟩
  | 126 => ⟨S_, .f32⟩
  | 127 => ⟨S4x128x128, .f32⟩
  | _ => ⟨S4x128x256, .f32⟩

abbrev hbmTy0_2 (i : Nat) : BufTy := match i % 128 with
  | 0 => ⟨S4x128x128, .f32⟩
  | 1 => ⟨S_, .f32⟩
  | 2 => ⟨S4x128, .f32⟩
  | 3 => ⟨S_, .f32⟩
  | 4 => ⟨S4x128, .f32⟩
  | 5 => ⟨S4x128, .f32⟩
  | 6 => ⟨S4x128x1, .f32⟩
  | 7 => ⟨S4x128x128, .f32⟩
  | 8 => ⟨S4x128x128, .f32⟩
  | 9 => ⟨S4x128x128, .f32⟩
  | 10 => ⟨S_, .f32⟩
  | 11 => ⟨S4x128, .f32⟩
  | 12 => ⟨S4x128x1, .f32⟩
  | 13 => ⟨S4x128x128, .f32⟩
  | 14 => ⟨S4x128x128, .f32⟩
  | 15 => ⟨S4x128x320, .f32⟩
  | 16 => ⟨S4x128x320, .f32⟩
  | 17 => ⟨S1x1x320, .f32⟩
  | 18 => ⟨S4x128x320, .f32⟩
  | 19 => ⟨S4x128x320, .f32⟩
  | 20 => ⟨S_, .f32⟩
  | 21 => ⟨S4x320, .f32⟩
  | 22 => ⟨S4x1, .f32⟩
  | 23 => ⟨S1x1, .f32⟩
  | 24 => ⟨S4x1, .f32⟩
  | 25 => ⟨S4x1, .f32⟩
  | 26 => ⟨S1x4, .f32⟩
  | _ => ⟨S4x128x256, .f32⟩

abbrev hbmTy (i : Nat) : BufTy := match i / 128 with
  | 0 => hbmTy0_0 i
  | 1 => hbmTy0_1 i
  | 2 => hbmTy0_2 i
  | _ => ⟨S4x128x256, .f32⟩

abbrev bufTy : (tb : Table) → Fin (tcTables nBuf tb) → BufTy
  | .hbm, ⟨i, _⟩ => hbmTy i
  | _, _ => ⟨S4x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_0 : Ref sig .tc := ⟨.hbm, 47, rfl⟩
abbrev main_v23 : Ref sig .tc := ⟨.hbm, 48, rfl⟩
abbrev main_v24 : Ref sig .tc := ⟨.hbm, 49, rfl⟩
abbrev main_cst_1 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_2 : Ref sig .tc := ⟨.hbm, 64, rfl⟩
abbrev main_v38 : Ref sig .tc := ⟨.hbm, 65, rfl⟩
abbrev main_v39 : Ref sig .tc := ⟨.hbm, 66, rfl⟩
abbrev main_cst_3 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_5 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_7 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_8 : Ref sig .tc := ⟨.hbm, 101, rfl⟩
abbrev main_v69 : Ref sig .tc := ⟨.hbm, 102, rfl⟩
abbrev main_v70 : Ref sig .tc := ⟨.hbm, 103, rfl⟩
abbrev main_cst_9 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_10 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_11 : Ref sig .tc := ⟨.hbm, 141, rfl⟩
abbrev main_v106 : Ref sig .tc := ⟨.hbm, 142, rfl⟩
abbrev main_v107 : Ref sig .tc := ⟨.hbm, 143, rfl⟩
abbrev main_cst_12 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_13 : Ref sig .tc := ⟨.hbm, 158, rfl⟩
abbrev main_v121 : Ref sig .tc := ⟨.hbm, 159, rfl⟩
abbrev main_v122 : Ref sig .tc := ⟨.hbm, 160, rfl⟩
abbrev main_cst_14 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_15 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_16 : Ref sig .tc := ⟨.hbm, 176, rfl⟩
abbrev main_v136 : Ref sig .tc := ⟨.hbm, 177, rfl⟩
abbrev main_cst_17 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_18 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_19 : Ref sig .tc := ⟨.hbm, 195, rfl⟩
abbrev main_v152 : Ref sig .tc := ⟨.hbm, 196, rfl⟩
abbrev main_v153 : Ref sig .tc := ⟨.hbm, 197, rfl⟩
abbrev main_cst_20 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_cst_21 : Ref sig .tc := ⟨.hbm, 211, rfl⟩
abbrev main_v166 : Ref sig .tc := ⟨.hbm, 212, rfl⟩
abbrev main_v167 : Ref sig .tc := ⟨.hbm, 213, rfl⟩
abbrev main_cst_22 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_23 : Ref sig .tc := ⟨.hbm, 220, rfl⟩
abbrev main_v173 : Ref sig .tc := ⟨.hbm, 221, rfl⟩
abbrev main_v174 : Ref sig .tc := ⟨.hbm, 222, rfl⟩
abbrev main_cst_24 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_cst_25 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_cst_26 : Ref sig .tc := ⟨.hbm, 257, rfl⟩
abbrev main_v207 : Ref sig .tc := ⟨.hbm, 258, rfl⟩
abbrev main_cst_27 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_cst_28 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_cst_29 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩

abbrev nD : Nat := 1
abbrev τ : Topo := Topo.v7x

variable {F : FTy → Type} [FloatOps F]
-- ==== Proof.KernelIdealBody.lean ====
/- The body of `KernelIdeal`'s call as a function: what it leaves in the result's staging buffer, from the input windows'
   blocks (`Blocks`, `blockOut`). -/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's accesses -/

abbrev r0 : Rect S1x128x256 := Rect.unit (s := S1x128x256) ![0, 0, 0] S1x128x256.size inb_S1x128x256_S1x128x256_0_0_0
abbrev r1 : Rect S1x128x128 := Rect.unit (s := S1x128x128) ![0, 0, 0] S1x128x128.size inb_S1x128x128_S1x128x128_0_0_0
abbrev r2 : Rect S2x256x128 := Rect.unit (s := S2x256x128) ![0, 0, 0] S1x256x128.size inb_S2x256x128_S1x256x128_0_0_0
abbrev r3 : Rect S2x1x128 := Rect.unit (s := S2x1x128) ![0, 0, 0] S1x1x128.size inb_S2x1x128_S1x1x128_0_0_0
abbrev r4 : Rect S2x128x128 := Rect.unit (s := S2x128x128) ![0, 0, 0] S1x128x128.size inb_S2x128x128_S1x128x128_0_0_0
abbrev r5 : Rect S2x128x256 := Rect.unit (s := S2x128x256) ![0, 0, 0] S1x128x256.size inb_S2x128x256_S1x128x256_0_0_0
abbrev r6 : Rect S2x1x256 := Rect.unit (s := S2x1x256) ![0, 0, 0] S1x1x256.size inb_S2x1x256_S1x1x256_0_0_0
abbrev r7 : Rect S2x256x128 := Rect.unit (s := S2x256x128) ![1, 0, 0] S1x256x128.size inb_S2x256x128_S1x256x128_1_0_0
abbrev r8 : Rect S2x1x128 := Rect.unit (s := S2x1x128) ![1, 0, 0] S1x1x128.size inb_S2x1x128_S1x1x128_1_0_0
abbrev r9 : Rect S2x128x128 := Rect.unit (s := S2x128x128) ![1, 0, 0] S1x128x128.size inb_S2x128x128_S1x128x128_1_0_0
abbrev r10 : Rect S2x128x256 := Rect.unit (s := S2x128x256) ![1, 0, 0] S1x128x256.size inb_S2x128x256_S1x128x256_1_0_0
abbrev r11 : Rect S2x1x256 := Rect.unit (s := S2x1x256) ![1, 0, 0] S1x1x256.size inb_S2x1x256_S1x1x256_1_0_0
abbrev r12 : Rect S1x64 := Rect.unit (s := S1x64) ![0, 0] S1x64.size inb_S1x64_S1x64_0_0
abbrev r13 : Rect S64x320 := Rect.unit (s := S64x320) ![0, 0] S64x320.size inb_S64x320_S64x320_0_0
abbrev r14 : Rect S256x320 := Rect.unit (s := S256x320) ![0, 0] S256x320.size inb_S256x320_S256x320_0_0
abbrev r15 : Rect S1x320 := Rect.unit (s := S1x320) ![0, 0] S1x320.size inb_S1x320_S1x320_0_0
abbrev r16 : Rect S320x320 := Rect.unit (s := S320x320) ![0, 0] S320x320.size inb_S320x320_S320x320_0_0
abbrev r17 : Rect S1x1 := Rect.unit (s := S1x1) ![0, 0] S1x1.size inb_S1x1_S1x1_0_0
abbrev r18 : Rect S1x1x128 := Rect.unit (s := S1x1x128) ![0, 0, 0] S1x1x128.size inb_S1x1x128_S1x1x128_0_0_0

/-! ## What the body leaves in the result's buffer -/

/-- The input windows' blocks at one grid point, in the order of the call's operands. -/
structure Blocks (F : FTy → Type) [FloatOps F] where
  x0 : Vec F S1x128x256 .f32
  x1 : Vec F S1x128x128 .f32
  x2 : Vec F S2x256x128 .f32
  x3 : Vec F S2x256x128 .f32
  x4 : Vec F S2x1x128 .f32
  x5 : Vec F S2x1x128 .f32
  x6 : Vec F S2x128x128 .f32
  x7 : Vec F S2x1x128 .f32
  x8 : Vec F S2x1x128 .f32
  x9 : Vec F S2x256x128 .f32
  x10 : Vec F S2x128x128 .f32
  x11 : Vec F S2x1x128 .f32
  x12 : Vec F S2x128x256 .f32
  x13 : Vec F S2x1x256 .f32
  x14 : Vec F S1x64 .f32
  x15 : Vec F S1x64 .f32
  x16 : Vec F S64x320 .f32
  x17 : Vec F S256x320 .f32
  x18 : Vec F S1x320 .f32
  x19 : Vec F S64x320 .f32
  x20 : Vec F S256x320 .f32
  x21 : Vec F S1x320 .f32
  x22 : Vec F S64x320 .f32
  x23 : Vec F S256x320 .f32
  x24 : Vec F S1x320 .f32
  x25 : Vec F S320x320 .f32
  x26 : Vec F S1x320 .f32
  x27 : Vec F S1x320 .f32
  x28 : Vec F S1x1 .f32

/-- The body's value `v3`. -/
def b_v3 (b : Blocks F) : FVec F S128x128 .f32 :=
  k0_pay3 (View.ld b.x1 r1)
/-- The body's value `v4`. -/
def b_v4 (b : Blocks F) : FVec F S128x128 .f32 :=
  k0_pay4 (View.ld b.x1 r1)
/-- The body's value `v24`. -/
def b_v24 (b : Blocks F) : FVec F S128x128 .f32 :=
  k0_pay5 (View.ld b.x1 r1)
/-- The body's value `v39`. -/
def b_v39 (b : Blocks F) : FVec F S128x128x128 .f32 :=
  k0_pay6 (View.ld b.x0 r0) (View.ld b.x2 r2) (View.ld b.x5 r3) (View.ld b.x3 r2)
/-- The body's value `v41`. -/
def b_v41 (b : Blocks F) : FVec F S128x128 .f32 :=
  k0_pay7 (View.ld b.x1 r1)
/-- The body's value `v73`. -/
def b_v73 (b : Blocks F) : IVec S1x128 32 :=
  iota .tc S1x128 32 [1] iota_S1x128_d1_w32
/-- The body's value `v69`. -/
def b_v69 (b : Blocks F) : FVec F S128x128 .f32 :=
  k0_pay9 (b_v39 b) (b_v41 b) (View.ld b.x4 r3) (View.ld b.x6 r4) (View.ld b.x7 r3) (View.ld b.x8 r3)
/-- The body's value `v72`. -/
def b_v72 (b : Blocks F) : FVec F S128x128 .f32 :=
  k0_pay10 (b_v24 b)
/-- The body's value `v114`. -/
def b_v114 (b : Blocks F) : FVec F S128x128 .f32 :=
  k0_pay13 (b_v3 b) (b_v4 b) (b_v69 b) (b_v72 b) (b_v73 b) (k0_pay11 (F := F)) (k0_pay12 (b_v3 b) (b_v4 b) (b_v24 b) (b_v39 b) (b_v41 b) (View.ld b.x4 r3) (View.ld b.x6 r4) (View.ld b.x7 r3) (View.ld b.x8 r3)) (Scalar.ofBits .f32 0x43000000#32)
/-- The body's value `v133`. -/
def b_v133 (b : Blocks F) : FVec F S128x128 .f32 :=
  k0_pay14 (b_v3 b) (b_v4 b) (b_v69 b) (b_v72 b) (b_v73 b)
/-- The body's value `v135`. -/
def b_v135 (b : Blocks F) : FVec F S128x128 .f32 :=
  k0_pay15 (b_v3 b) (b_v114 b) (b_v133 b)
/-- The body's value `v157`. -/
def b_v157 (b : Blocks F) : FVec F S128x256 .f32 :=
  k0_pay16 (k0_pay2 (View.ld b.x0 r0)) (k0_pay8 (b_v39 b) (b_v41 b) (View.ld b.x4 r3) (View.ld b.x6 r4) (View.ld b.x7 r3)) (View.ld b.x9 r2) (View.ld b.x10 r4) (View.ld b.x11 r3) (View.ld b.x12 r5) (View.ld b.x13 r6)
/-- The body's value `v158`. -/
def b_v158 (b : Blocks F) : FVec F S128x128 .f32 :=
  k0_pay17 (b_v3 b) (b_v114 b) (b_v133 b)
/-- The body's value `v171`. -/
def b_v171 (b : Blocks F) : FVec F S128x128 .f32 :=
  k0_pay18 (b_v3 b) (b_v114 b) (b_v133 b)
/-- The body's value `v173`. -/
def b_v173 (b : Blocks F) : FVec F S1x128 .f32 :=
  k0_pay19 (b_v3 b) (b_v114 b) (b_v133 b)
/-- The body's value `v174`. -/
def b_v174 (b : Blocks F) : FVec F S128x128 .f32 :=
  k0_pay20 (b_v3 b) (b_v114 b) (b_v133 b)
/-- The body's value `v178`. -/
def b_v178 (b : Blocks F) : FVec F S128x128 .f32 :=
  k0_pay21 (b_v171 b) (b_v173 b) (b_v174 b)
/-- The body's value `v210`. -/
def b_v210 (b : Blocks F) : FVec F S128x128x128 .f32 :=
  k0_pay22 (b_v157 b) (b_v171 b) (b_v173 b) (b_v174 b) (View.ld b.x2 r7) (View.ld b.x5 r8) (View.ld b.x3 r7) (View.ld b.x4 r8) (View.ld b.x6 r9)
/-- The body's value `v213`. -/
def b_v213 (b : Blocks F) : FVec F S1x1x128 .f32 :=
  k0_pay23 (View.ld b.x7 r8)
/-- The body's value `v289`. -/
def b_v289 (b : Blocks F) : FVec F S128x128 .f32 :=
  k0_pay30 (b_v135 b) (b_v158 b) (k0_pay25 (b_v210 b) (b_v213 b) (View.ld b.x8 r8)) (k0_pay26 (b_v178 b)) (iota .tc S1x128 32 [1] iota_S1x128_d1_w32) (k0_pay27 (b_v135 b) (b_v158 b) (b_v178 b) (b_v210 b) (b_v213 b) (View.ld b.x8 r8)) (k0_pay28 (b_v135 b) (b_v158 b) (b_v178 b) (b_v210 b) (b_v213 b) (View.ld b.x8 r8)) k0_pay29
/-- The body's value `v311`. -/
def b_v311 (b : Blocks F) : FVec F S128x256 .f32 :=
  k0_pay32 (b_v157 b) (k0_pay31 (b_v157 b) (k0_pay24 (b_v210 b) (b_v213 b)) (View.ld b.x9 r7) (View.ld b.x10 r9) (View.ld b.x11 r8)) (View.ld b.x12 r10) (View.ld b.x13 r11)
/-- The body's value `v336`. -/
def b_v336 (b : Blocks F) : FVec F S128x64 .f32 :=
  k0_pay33 (b_v289 b) (View.ld b.x15 r12) (View.ld b.x14 r12)

/-- What the body stores in the result's staging buffer. -/
def payOut (b : Blocks F) : Vec F S1x1x128 .f32 :=
  k0_pay1 (k0_pay36 (b_v311 b) (b_v336 b) (View.ld b.x22 r13) (View.ld b.x23 r14) (View.ld b.x24 r15)) (k0_pay37 (b_v311 b) (b_v336 b) (k0_pay34 (b_v289 b) (View.ld b.x15 r12) (View.ld b.x14 r12) (View.ld b.x16 r13)) (k0_pay35 (View.ld b.x17 r14)) (constant S128x320 .f32 0x00000000#32) (View.ld b.x18 r15) (View.ld b.x19 r13) (View.ld b.x20 r14) (View.ld b.x21 r15)) (View.ld b.x25 r16) (View.ld b.x26 r15) (View.ld b.x27 r15) (View.ld b.x28 r17)

/-- The result's staging buffer after the body: its one store, which covers it. -/
def blockOut (b : Blocks F) : Vec F S1x1x128 .f32 :=
  View.canon [⟨r18, payOut b⟩]

/-- The store covers the buffer. -/
theorem cover_out (p0 : Vec F S1x1x128 .f32) (y : S1x1x128.Idx) :
    ∃ pc ∈ ([⟨r18, p0⟩] : List (View.Piece (Elt F) S1x1x128 .f32)), y ∈ pc.1.set :=
  View.cover_of_tiled [⟨r18, p0⟩] S1x1x128.size (by rfl) y

end Cert.KernelIdeal.Run

end
-- ==== Proof.KernelIdealRun.lean ====
/- The frame of `KernelIdeal`, by hand over the generated kit: the body's triple, the pipeline's proof data, the run
   of @main with every counter at zero, and the frame claim. -/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.KernelIdealBody
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 8000000 in
/-- The body, the input windows' buffers at any contents and the result's at anything, runs and leaves the inputs as
    they were and the result at `blockOut` of them. -/
theorem body_triple (c : Dev nD) (E : Set ℕ) (i : grid0.Coords) (arg1 : Memref sig .tc .vmem S1x128x256 .f32) (harg1 : arg1.IsWhole) (arg2 : Memref sig .tc .vmem S1x128x128 .f32) (harg2 : arg2.IsWhole) (arg3 : Memref sig .tc .vmem S2x256x128 .f32) (harg3 : arg3.IsWhole) (arg4 : Memref sig .tc .vmem S2x256x128 .f32) (harg4 : arg4.IsWhole) (arg5 : Memref sig .tc .vmem S2x1x128 .f32) (harg5 : arg5.IsWhole) (arg6 : Memref sig .tc .vmem S2x1x128 .f32) (harg6 : arg6.IsWhole) (arg7 : Memref sig .tc .vmem S2x128x128 .f32) (harg7 : arg7.IsWhole) (arg8 : Memref sig .tc .vmem S2x1x128 .f32) (harg8 : arg8.IsWhole) (arg9 : Memref sig .tc .vmem S2x1x128 .f32) (harg9 : arg9.IsWhole) (arg10 : Memref sig .tc .vmem S2x256x128 .f32) (harg10 : arg10.IsWhole) (arg11 : Memref sig .tc .vmem S2x128x128 .f32) (harg11 : arg11.IsWhole) (arg12 : Memref sig .tc .vmem S2x1x128 .f32) (harg12 : arg12.IsWhole) (arg13 : Memref sig .tc .vmem S2x128x256 .f32) (harg13 : arg13.IsWhole) (arg14 : Memref sig .tc .vmem S2x1x256 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S64x320 .f32) (harg17 : arg17.IsWhole) (arg18 : Memref sig .tc .vmem S256x320 .f32) (harg18 : arg18.IsWhole) (arg19 : Memref sig .tc .vmem S1x320 .f32) (harg19 : arg19.IsWhole) (arg20 : Memref sig .tc .vmem S64x320 .f32) (harg20 : arg20.IsWhole) (arg21 : Memref sig .tc .vmem S256x320 .f32) (harg21 : arg21.IsWhole) (arg22 : Memref sig .tc .vmem S1x320 .f32) (harg22 : arg22.IsWhole) (arg23 : Memref sig .tc .vmem S64x320 .f32) (harg23 : arg23.IsWhole) (arg24 : Memref sig .tc .vmem S256x320 .f32) (harg24 : arg24.IsWhole) (arg25 : Memref sig .tc .vmem S1x320 .f32) (harg25 : arg25.IsWhole) (arg26 : Memref sig .tc .vmem S320x320 .f32) (harg26 : arg26.IsWhole) (arg27 : Memref sig .tc .vmem S1x320 .f32) (harg27 : arg27.IsWhole) (arg28 : Memref sig .tc .vmem S1x320 .f32) (harg28 : arg28.IsWhole) (arg29 : Memref sig .tc .vmem S1x1 .f32) (harg29 : arg29.IsWhole) (arg30 : Memref sig .tc .vmem S1x1x128 .f32) (harg30 : arg30.IsWhole)
    (x0 : Vec F S1x128x256 .f32) (x1 : Vec F S1x128x128 .f32) (x2 : Vec F S2x256x128 .f32) (x3 : Vec F S2x256x128 .f32) (x4 : Vec F S2x1x128 .f32) (x5 : Vec F S2x1x128 .f32) (x6 : Vec F S2x128x128 .f32) (x7 : Vec F S2x1x128 .f32) (x8 : Vec F S2x1x128 .f32) (x9 : Vec F S2x256x128 .f32) (x10 : Vec F S2x128x128 .f32) (x11 : Vec F S2x1x128 .f32) (x12 : Vec F S2x128x256 .f32) (x13 : Vec F S2x1x256 .f32) (x14 : Vec F S1x64 .f32) (x15 : Vec F S1x64 .f32) (x16 : Vec F S64x320 .f32) (x17 : Vec F S256x320 .f32) (x18 : Vec F S1x320 .f32) (x19 : Vec F S64x320 .f32) (x20 : Vec F S256x320 .f32) (x21 : Vec F S1x320 .f32) (x22 : Vec F S64x320 .f32) (x23 : Vec F S256x320 .f32) (x24 : Vec F S1x320 .f32) (x25 : Vec F S320x320 .f32) (x26 : Vec F S1x320 .f32) (x27 : Vec F S1x320 .f32) (x28 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ (∃ d, owns (c : Thread nD τ) arg30 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare (blockOut ⟨x0, x1, x2, x3, x4, x5, x6, x7, x8, x9, x10, x11, x12, x13, x14, x15, x16, x17, x18, x19, x20, x21, x22, x23, x24, x25, x26, x27, x28⟩)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  iexists _; isplitr
  swap; · iexact H29
  ipureintro
  refine (View.read_writes_eq_canon _ _ _ (cover_out _)).trans ?_
  rfl

/-! ## The proof data -/

/-- The input blocks at point `t`. -/
def blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t, iblk m c 25 t, iblk m c 26 t, iblk m c 27 t, iblk m c 28 t⟩

/-- The pipeline's proof data on core `c`: each input's buffer keeps its block, the result's is `blockOut` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => blockOut (blocks m c t)
    | ⟨_ + 30, h⟩ => absurd h (Nat.not_lt.2 (Nat.le_add_left _ _))
  Φ _ := Pipeline.ΦA spec0 c
  q _ := fullShare
  owed _ := 0

/-- Its arrays are the contents as the region finds them. -/
theorem A_eq (c : Dev nD) (w : Fin cfg0.W) : (dats m 0 c).A w = V m c (Pipeline.arrRef spec0 w) := by
  dsimp only [dats]

/-- The result's buffer after the body. -/
theorem after_29 (c : Dev nD) (t : Fin cfg0.N) : (dats m 0 c).after 29 t = blockOut (blocks m c t) := by dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before0_13_of m (dats m 0 c) (A_eq m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  before0_14_of m (dats m 0 c) (A_eq m c 14) (after_14 m c) t d
theorem after_15 (c : Dev nD) (t : Fin cfg0.N) : (dats m 0 c).after 15 t = iblk m c 15 t := by dsimp only [dats]
theorem before_15 (c : Dev nD) (t : Fin cfg0.N) (d) : (dats m 0 c).before 15 t d = iblk m c 15 t :=
  before0_15_of m (dats m 0 c) (A_eq m c 15) (after_15 m c) t d
theorem after_16 (c : Dev nD) (t : Fin cfg0.N) : (dats m 0 c).after 16 t = iblk m c 16 t := by dsimp only [dats]
theorem before_16 (c : Dev nD) (t : Fin cfg0.N) (d) : (dats m 0 c).before 16 t d = iblk m c 16 t :=
  before0_16_of m (dats m 0 c) (A_eq m c 16) (after_16 m c) t d
theorem after_17 (c : Dev nD) (t : Fin cfg0.N) : (dats m 0 c).after 17 t = iblk m c 17 t := by dsimp only [dats]
theorem before_17 (c : Dev nD) (t : Fin cfg0.N) (d) : (dats m 0 c).before 17 t d = iblk m c 17 t :=
  before0_17_of m (dats m 0 c) (A_eq m c 17) (after_17 m c) t d
theorem after_18 (c : Dev nD) (t : Fin cfg0.N) : (dats m 0 c).after 18 t = iblk m c 18 t := by dsimp only [dats]
theorem before_18 (c : Dev nD) (t : Fin cfg0.N) (d) : (dats m 0 c).before 18 t d = iblk m c 18 t :=
  before0_18_of m (dats m 0 c) (A_eq m c 18) (after_18 m c) t d
theorem after_19 (c : Dev nD) (t : Fin cfg0.N) : (dats m 0 c).after 19 t = iblk m c 19 t := by dsimp only [dats]
theorem before_19 (c : Dev nD) (t : Fin cfg0.N) (d) : (dats m 0 c).before 19 t d = iblk m c 19 t :=
  before0_19_of m (dats m 0 c) (A_eq m c 19) (after_19 m c) t d
theorem after_20 (c : Dev nD) (t : Fin cfg0.N) : (dats m 0 c).after 20 t = iblk m c 20 t := by dsimp only [dats]
theorem before_20 (c : Dev nD) (t : Fin cfg0.N) (d) : (dats m 0 c).before 20 t d = iblk m c 20 t :=
  before0_20_of m (dats m 0 c) (A_eq m c 20) (after_20 m c) t d
theorem after_21 (c : Dev nD) (t : Fin cfg0.N) : (dats m 0 c).after 21 t = iblk m c 21 t := by dsimp only [dats]
theorem before_21 (c : Dev nD) (t : Fin cfg0.N) (d) : (dats m 0 c).before 21 t d = iblk m c 21 t :=
  before0_21_of m (dats m 0 c) (A_eq m c 21) (after_21 m c) t d
theorem after_22 (c : Dev nD) (t : Fin cfg0.N) : (dats m 0 c).after 22 t = iblk m c 22 t := by dsimp only [dats]
theorem before_22 (c : Dev nD) (t : Fin cfg0.N) (d) : (dats m 0 c).before 22 t d = iblk m c 22 t :=
  before0_22_of m (dats m 0 c) (A_eq m c 22) (after_22 m c) t d
theorem after_23 (c : Dev nD) (t : Fin cfg0.N) : (dats m 0 c).after 23 t = iblk m c 23 t := by dsimp only [dats]
theorem before_23 (c : Dev nD) (t : Fin cfg0.N) (d) : (dats m 0 c).before 23 t d = iblk m c 23 t :=
  before0_23_of m (dats m 0 c) (A_eq m c 23) (after_23 m c) t d
theorem after_24 (c : Dev nD) (t : Fin cfg0.N) : (dats m 0 c).after 24 t = iblk m c 24 t := by dsimp only [dats]
theorem before_24 (c : Dev nD) (t : Fin cfg0.N) (d) : (dats m 0 c).before 24 t d = iblk m c 24 t :=
  before0_24_of m (dats m 0 c) (A_eq m c 24) (after_24 m c) t d
theorem after_25 (c : Dev nD) (t : Fin cfg0.N) : (dats m 0 c).after 25 t = iblk m c 25 t := by dsimp only [dats]
theorem before_25 (c : Dev nD) (t : Fin cfg0.N) (d) : (dats m 0 c).before 25 t d = iblk m c 25 t :=
  before0_25_of m (dats m 0 c) (A_eq m c 25) (after_25 m c) t d
theorem after_26 (c : Dev nD) (t : Fin cfg0.N) : (dats m 0 c).after 26 t = iblk m c 26 t := by dsimp only [dats]
theorem before_26 (c : Dev nD) (t : Fin cfg0.N) (d) : (dats m 0 c).before 26 t d = iblk m c 26 t :=
  before0_26_of m (dats m 0 c) (A_eq m c 26) (after_26 m c) t d
theorem after_27 (c : Dev nD) (t : Fin cfg0.N) : (dats m 0 c).after 27 t = iblk m c 27 t := by dsimp only [dats]
theorem before_27 (c : Dev nD) (t : Fin cfg0.N) (d) : (dats m 0 c).before 27 t d = iblk m c 27 t :=
  before0_27_of m (dats m 0 c) (A_eq m c 27) (after_27 m c) t d
theorem after_28 (c : Dev nD) (t : Fin cfg0.N) : (dats m 0 c).after 28 t = iblk m c 28 t := by dsimp only [dats]
theorem before_28 (c : Dev nD) (t : Fin cfg0.N) (d) : (dats m 0 c).before 28 t d = iblk m c 28 t :=
  before0_28_of m (dats m 0 c) (A_eq m c 28) (after_28 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

set_option maxHeartbeats 8000000 in
/-- The body at any point: the inputs' buffers hold their blocks, so `body_triple` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25, before_26, before_27, before_28]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (body_triple c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body table's row at point `t`'s slots is the body at the point's buffers. -/
theorem defs_row (t : Fin cfg0.N) :
    defs₀ (F := F) .tc cfg0.body (cfg0.bodyArgs t (cfg0.slots t)) = bodyAt0 t := by
  unfold defs₀; rw [Defs.onTc_tc]

set_option maxHeartbeats 8000000 in
/-- The body obligation at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run and the frame -/

set_option backward.isDefEq.respectTransparency.types false in
set_option maxHeartbeats 1600000 in
/-- @main runs: the pipeline's arrays end at what the proof data say, every other buffer as the host lines after the
    region leave it, and every semaphore counter is zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

omit m ρ

/-- The frame claim: @main runs, its arguments end unchanged and every counter at zero. -/
theorem frame : Cert.quiescent_KernelIdeal := fun m ρ _ =>
  θ_run_and (frame_of m ρ (dats m) (A_eq m) (run_main m ρ)) ((θ_run defs _ _).mono (fun _ h => h.2) (run_quiescent m ρ))

end Cert.KernelIdeal.Run

end
-- ==== Proof.Spec.lean ====
/- The mathematics both programs compute, over the extended reals and plain finite indices: a layer of the
   equivariant graph network, the radial basis, the attention block over the points and the pooled value. -/
module

public import Idealize.ShloMosaic.Lib.Pointwise

@[expose] public section

noncomputable section

namespace Cert.Spec

open Idealize.ShloMosaic

/-- The gate `v · σ(v)`. -/
def silu (v : EReal) : EReal := v * Ideal.logistic v

/-- The number of points, as the programs write it. -/
def cN : EReal := Ideal.ofBits .f32 0x43000000#32
/-- The small number under the distance's root, as the programs write it. -/
def cEps : EReal := Ideal.ofBits .f32 0x2B8CBCCC#32
/-- The value a maximum starts from. -/
def cBot : EReal := Ideal.ofBits .f32 0xFF800000#32

/-- The weights of one layer, the joined inputs' rows given piece by piece. -/
structure Layer where
  We1a : Fin 256 → Fin 128 → EReal
  We1b : Fin 256 → Fin 128 → EReal
  wd : Fin 128 → EReal
  be1 : Fin 128 → EReal
  We2 : Fin 128 → Fin 128 → EReal
  be2 : Fin 128 → EReal
  Wc : Fin 128 → EReal
  Wn1a : Fin 256 → Fin 128 → EReal
  Wn1b : Fin 128 → Fin 128 → EReal
  bn1 : Fin 128 → EReal
  Wn2 : Fin 128 → Fin 256 → EReal
  bn2 : Fin 256 → EReal

/-- Features of the points. -/
abbrev Feat := Fin 128 → Fin 256 → EReal
/-- Coordinates of the points. -/
abbrev Pos := Fin 128 → Fin 3 → EReal

/-- The squared distance of two points. -/
def d2 (x : Pos) (i j : Fin 128) : EReal :=
  (x i 0 - x j 0) * (x i 0 - x j 0) + (x i 1 - x j 1) * (x i 1 - x j 1)
    + (x i 2 - x j 2) * (x i 2 - x j 2)

/-- The edge network's first linear map. -/
def pre1 (W : Layer) (h : Feat) (x : Pos) (i j e : Fin 128) : EReal :=
  (∑ d, h i d * W.We1a d e + W.be1 e) + ∑ d, h j d * W.We1b d e + d2 x i j * W.wd e

/-- The edge network's second linear map. -/
def pre2 (W : Layer) (h : Feat) (x : Pos) (i j e : Fin 128) : EReal :=
  ∑ k, silu (pre1 W h x i j k) * W.We2 k e + W.be2 e

/-- The message of an edge. -/
def msg (W : Layer) (h : Feat) (x : Pos) (i j e : Fin 128) : EReal := silu (pre2 W h x i j e)

/-- The weight of an edge in the coordinates' update. -/
def cw (W : Layer) (h : Feat) (x : Pos) (i j : Fin 128) : EReal := ∑ e, msg W h x i j e * W.Wc e

/-- The mean step of a point along one axis. -/
def step (W : Layer) (h : Feat) (x : Pos) (i : Fin 128) (a : Fin 3) : EReal :=
  Ideal.div (∑ j, Ideal.div (x i a - x j a) (Ideal.sqrt (d2 x i j) + 1) * cw W h x i j) cN

/-- The coordinates after a layer. -/
def posNext (W : Layer) (h : Feat) (x : Pos) : Pos := fun i a => x i a + step W h x i a

/-- The node network's first linear map. -/
def preN (W : Layer) (h : Feat) (x : Pos) (i e : Fin 128) : EReal :=
  ∑ d, h i d * W.Wn1a d e + ∑ d, (∑ j, msg W h x i j d) * W.Wn1b d e + W.bn1 e

/-- The features after a layer. -/
def featNext (W : Layer) (h : Feat) (x : Pos) : Feat := fun i d =>
  h i d + ∑ e, silu (preN W h x i e) * W.Wn2 e d + W.bn2 d

/-- The weights after the layers, a projection's rows given piece by piece. -/
structure Head where
  cent : Fin 64 → EReal
  gam : Fin 64 → EReal
  Wqr : Fin 64 → Fin 320 → EReal
  Wqh : Fin 256 → Fin 320 → EReal
  bq : Fin 320 → EReal
  Wkr : Fin 64 → Fin 320 → EReal
  Wkh : Fin 256 → Fin 320 → EReal
  bk : Fin 320 → EReal
  Wvr : Fin 64 → Fin 320 → EReal
  Wvh : Fin 256 → Fin 320 → EReal
  bv : Fin 320 → EReal
  Wo : Fin 320 → Fin 320 → EReal
  bo : Fin 320 → EReal
  Wa : Fin 320 → EReal
  ba : EReal

/-- A point's offset from the centroid along one axis. -/
def off (x : Pos) (i : Fin 128) (a : Fin 3) : EReal := x i a - Ideal.div (∑ j, x j a) cN

/-- A point's distance from the centroid. -/
def dist (x : Pos) (i : Fin 128) : EReal :=
  Ideal.sqrt (off x i 0 * off x i 0 + off x i 1 * off x i 1 + off x i 2 * off x i 2 + cEps)

/-- The radial basis. -/
def rbf (H : Head) (x : Pos) (i : Fin 128) (k : Fin 64) : EReal :=
  Ideal.exp (-H.gam k * ((dist x i - H.cent k) * (dist x i - H.cent k)))

/-- A projection of the joined radial basis and features. -/
def proj (H : Head) (Wr : Fin 64 → Fin 320 → EReal) (Wh : Fin 256 → Fin 320 → EReal) (b : Fin 320 → EReal)
    (h : Feat) (x : Pos) (i : Fin 128) (e : Fin 320) : EReal :=
  ∑ k, rbf H x i k * Wr k e + ∑ d, h i d * Wh d e + b e

/-- The scaled attention logit of two points. -/
def logit (H : Head) (h : Feat) (x : Pos) (i j : Fin 128) : EReal :=
  (∑ e, proj H H.Wqr H.Wqh H.bq h x i e * proj H H.Wkr H.Wkh H.bk h x j e)
    * (((Real.sqrt 320)⁻¹ : ℝ) : EReal)

/-- The exponential of a logit less its row's maximum. -/
def pexp (H : Head) (h : Feat) (x : Pos) (i j : Fin 128) : EReal :=
  Ideal.exp (logit H h x i j - max cBot (Finset.univ.fold max cBot fun k => logit H h x i k))

/-- The attention weight. -/
def att (H : Head) (h : Feat) (x : Pos) (i j : Fin 128) : EReal :=
  Ideal.div (pexp H h x i j) (∑ k, pexp H h x i k)

/-- The attention block's result. -/
def tok (H : Head) (h : Feat) (x : Pos) (i : Fin 128) (e : Fin 320) : EReal :=
  ∑ k, (∑ j, att H h x i j * proj H H.Wvr H.Wvh H.bv h x j k) * H.Wo k e + H.bo e

/-- The pooled value. -/
def value (H : Head) (h : Feat) (x : Pos) : EReal :=
  ∑ e, (Finset.univ.fold max cBot fun i => tok H h x i e) * H.Wa e + H.ba

/-- The whole computation for one batch entry: two layers and the head. -/
def total (W0 W1 : Layer) (H : Head) (h : Feat) (x : Pos) : EReal :=
  value H (featNext W1 (featNext W0 h x) (posNext W0 h x)) (posNext W1 (featNext W0 h x) (posNext W0 h x))

end Cert.Spec

end
-- ==== Proof.Consts.lean ====
/- The constants the programs write, as real numbers, and small facts on sums used by both sides. -/
module

public import proofs.«01_k».proof.Proof.Spec
public import Idealize.ShloMosaic.Lib.Claim

@[expose] public section

noncomputable section

namespace Cert.Spec

open Idealize.ShloMosaic

/-- The number of points is 128. -/
theorem cN_eq : cN = ((128 : ℝ) : EReal) := by
  unfold cN
  simp [Ideal.ofBits, Ideal.ieee, -EReal.coe_mul]
  norm_num

/-- The inner width's word is 320. -/
theorem c320_eq : Ideal.ofBits .f32 0x43A00000#32 = ((320 : ℝ) : EReal) := by
  simp [Ideal.ofBits, Ideal.ieee, -EReal.coe_mul]
  norm_num

/-- Zero over the number of points is zero. -/
theorem zero_div_cN : Ideal.div 0 cN = 0 := by
  rw [cN_eq, Ideal.div_coe (by norm_num), zero_mul]

/-- Dividing by the root of 320 multiplies by its inverse. -/
theorem div_sqrt320 (v : EReal) :
    Ideal.div v (Ideal.sqrt (Ideal.ofBits .f32 0x43A00000#32)) = v * (((Real.sqrt 320)⁻¹ : ℝ) : EReal) := by
  have h : Ideal.sqrt ((320 : ℝ) : EReal) = ((Real.sqrt 320 : ℝ) : EReal) := by
    show (if (320 : ℝ) < 0 then ⊥ else ((Real.sqrt 320 : ℝ) : EReal)) = _
    rw [if_neg (by norm_num)]
  rw [c320_eq, h, Ideal.div_coe (by positivity), one_div]

/-- A sum over 128 lanes of which all but the first three hold zero. -/
theorem sum_lanes (f : Fin 128 → EReal) (hf : ∀ n : Fin 128, 3 ≤ n.val → f n = 0) :
    ∑ n, f n = f 0 + f 1 + f 2 := by
  rw [Fin.sum_univ_two_halves 3 125 rfl f, Fin.sum_univ_three,
    Finset.sum_eq_zero fun k _ => hf _ (Nat.le_add_right 3 _), add_zero]
  rfl

end Cert.Spec

end
-- ==== Proof.KernelVal.lean ====
/- The kernel body's values read at an index: each named value of the body is the corresponding quantity of
   the specification, at the blocks the body is given. -/
module

public import proofs.«01_k».proof.Proof.KernelIdealBody
public import proofs.«01_k».proof.Proof.Consts

@[expose] public section

set_option maxRecDepth 16384
set_option maxHeartbeats 1000000

noncomputable section

namespace Cert.KernelIdeal.Val

open Cert.KernelIdeal Cert.KernelIdeal.Gen Cert.KernelIdeal.Run Idealize.ShloMosaic Cert.Spec

/-- Layer `l`'s weights as the blocks hold them. -/
def layer (b : Blocks Ideal) (l : Fin 2) : Layer where
  We1a d e := b.x2 (ix3 l d e)
  We1b d e := b.x3 (ix3 l d e)
  wd e := b.x4 (ix3 l 0 e)
  be1 e := b.x5 (ix3 l 0 e)
  We2 d e := b.x6 (ix3 l d e)
  be2 e := b.x7 (ix3 l 0 e)
  Wc e := b.x8 (ix3 l 0 e)
  Wn1a d e := b.x9 (ix3 l d e)
  Wn1b d e := b.x10 (ix3 l d e)
  bn1 e := b.x11 (ix3 l 0 e)
  Wn2 d e := b.x12 (ix3 l d e)
  bn2 e := b.x13 (ix3 l 0 e)

/-- The weights after the layers as the blocks hold them. -/
def head (b : Blocks Ideal) : Head where
  cent k := b.x14 (ix2 0 k)
  gam k := b.x15 (ix2 0 k)
  Wqr d e := b.x16 (ix2 d e)
  Wqh d e := b.x17 (ix2 d e)
  bq e := b.x18 (ix2 0 e)
  Wkr d e := b.x19 (ix2 d e)
  Wkh d e := b.x20 (ix2 d e)
  bk e := b.x21 (ix2 0 e)
  Wvr d e := b.x22 (ix2 d e)
  Wvh d e := b.x23 (ix2 d e)
  bv e := b.x24 (ix2 0 e)
  Wo d e := b.x25 (ix2 d e)
  bo e := b.x26 (ix2 0 e)
  Wa e := b.x27 (ix2 0 e)
  ba := b.x28 (ix2 0 0)

/-- An axis of space as a lane of the coordinates' array. -/
abbrev lane (a : Fin 3) : Fin 128 := ⟨a.val, by omega⟩

/-- The features before the first layer. -/
def h0 (b : Blocks Ideal) : Feat := fun i d => b.x0 (ix3 0 i d)
/-- The coordinates before the first layer. -/
def p0 (b : Blocks Ideal) : Pos := fun i a => b.x1 (ix3 0 i (lane a))

variable (b : Blocks Ideal)

/-! ## The first layer -/

theorem v3_at (i a : Fin 128) : b_v3 b (ix2 i a) = b.x1 (ix3 0 i a) := by
  pointwise [b_v3, k0_pay3]

theorem v4_at (i a : Fin 128) : b_v4 b (ix2 a i) = b.x1 (ix3 0 i a) := by
  pointwise [b_v4, k0_pay4, k0_pay3]

/-- The first layer's squared distances. -/
theorem v24_at (i j : Fin 128) : b_v24 b (ix2 i j) = d2 (p0 b) i j := by
  pointwise [b_v24, k0_pay5, k0_pay4, k0_pay3]
  rfl

theorem v41_at (i j : Fin 128) : b_v41 b (ix2 i j) = d2 (p0 b) i j := by
  pointwise [b_v41, k0_pay7]
  exact v24_at b i j

/-- The part of the edge network's first map that the features give. -/
theorem v39_at (i j e : Fin 128) : b_v39 b (ix3 i j e) =
    (∑ d, h0 b i d * (layer b 0).We1a d e + (layer b 0).be1 e) + ∑ d, h0 b j d * (layer b 0).We1b d e := by
  pointwise [b_v39, k0_pay6, k0_pay2]
  rfl

/-- The first layer's messages. -/
theorem v63_at (i j e : Fin 128) :
    k0_pay8 (b_v39 b) (b_v41 b) (View.ld b.x4 r3) (View.ld b.x6 r4) (View.ld b.x7 r3) (ix3 i j e)
      = msg (layer b 0) (h0 b) (p0 b) i j e := by
  pointwise [k0_pay8]
  simp only [v39_at, v41_at]
  rfl

/-- The first layer's edge weights. -/
theorem v69_at (i j : Fin 128) : b_v69 b (ix2 i j) = cw (layer b 0) (h0 b) (p0 b) i j := by
  pointwise [b_v69, k0_pay9]
  simp only [v63_at]
  rfl

theorem v72_at (i j : Fin 128) : b_v72 b (ix2 i j) = Ideal.sqrt (d2 (p0 b) i j) + 1 := by
  pointwise [b_v72, k0_pay10]
  rw [v24_at]

theorem v83_at (i : Fin 128) :
    k0_pay12 (b_v3 b) (b_v4 b) (b_v24 b) (b_v39 b) (b_v41 b) (View.ld b.x4 r3) (View.ld b.x6 r4)
      (View.ld b.x7 r3) (View.ld b.x8 r3) (ix2 i 0)
    = ∑ j, Ideal.div (p0 b i 0 - p0 b j 0) (Ideal.sqrt (d2 (p0 b) i j) + 1) * cw (layer b 0) (h0 b) (p0 b) i j := by
  pointwise [k0_pay12, k0_pay10, k0_pay9]
  simp only [v63_at, v3_at, v4_at, v24_at]
  rfl

/-- Adding the three selected steps onto zero leaves lane `a`'s own step. -/
theorem select_lane (s : Fin 3 → EReal) (a : Fin 3) :
    (Scalar.select (IntOp.cmpi .eq (BitVec.ofNat 32 (lane a).val) 0#32) (s 0) 0
      + Scalar.select (IntOp.cmpi .eq (BitVec.ofNat 32 (lane a).val) 1#32) (s 1) 0)
      + Scalar.select (IntOp.cmpi .eq (BitVec.ofNat 32 (lane a).val) 2#32) (s 2) 0 = s a := by
  fin_cases a <;> simp [Scalar.select, IntOp.cmpi, lane]

/-- The coordinates after the first layer, on the lanes that hold them. -/
theorem v135_at (i : Fin 128) (a : Fin 3) :
    b_v135 b (ix2 i (lane a)) = posNext (layer b 0) (h0 b) (p0 b) i a := by
  pointwise [b_v135, k0_pay15, b_v114, k0_pay13, b_v133, k0_pay14, k0_pay11, b_v73]
  simp only [v83_at, v3_at, v4_at, v69_at, v72_at]
  exact congrArg (_ + ·) (select_lane (step (layer b 0) (h0 b) (p0 b) i) a)

/-- On a lane past the third no step is selected. -/
theorem select_off (n : Fin 128) (hn : 3 ≤ n.val) (s0 s1 s2 : EReal) :
    (Scalar.select (IntOp.cmpi .eq (BitVec.ofNat 32 n.val) 0#32) s0 0
      + Scalar.select (IntOp.cmpi .eq (BitVec.ofNat 32 n.val) 1#32) s1 0)
      + Scalar.select (IntOp.cmpi .eq (BitVec.ofNat 32 n.val) 2#32) s2 0 = 0 := by
  have h : ∀ k : ℕ, k < 3 → IntOp.cmpi .eq (BitVec.ofNat 32 n.val) (BitVec.ofNat 32 k) = 0#1 := fun k hk => by
    have hne : BitVec.ofNat 32 n.val ≠ BitVec.ofNat 32 k := fun e => by
      have := congrArg BitVec.toNat e
      simp only [BitVec.toNat_ofNat] at this
      omega
    show BitVec.ofBool (BitVec.ofNat 32 n.val == BitVec.ofNat 32 k) = 0#1
    rw [beq_eq_false_iff_ne.mpr hne]
    rfl
  rw [h 0 (by omega), h 1 (by omega), h 2 (by omega)]
  simp [Scalar.select]

/-- The first layer leaves the other lanes as they were. -/
theorem v135_off (i n : Fin 128) (hn : 3 ≤ n.val) : b_v135 b (ix2 i n) = b.x1 (ix3 0 i n) := by
  pointwise [b_v135, k0_pay15, b_v114, k0_pay13, b_v133, k0_pay14, k0_pay11, b_v73]
  rw [select_off n hn, add_zero, v3_at]

/-- The first layer's coordinates, as the second layer takes them. -/
def p1 : Pos := posNext (layer b 0) (h0 b) (p0 b)
/-- The first layer's features, as the second layer takes them. -/
def h1 : Feat := featNext (layer b 0) (h0 b) (p0 b)

/-- The features after the first layer. -/
theorem v157_at (i : Fin 128) (d : Fin 256) : b_v157 b (ix2 i d) = h1 b i d := by
  pointwise [b_v157, k0_pay16, k0_pay2]
  simp only [v63_at]
  rfl

/-! ## The second layer -/

theorem v135_0 (i : Fin 128) : b_v135 b (ix2 i 0) = p1 b i 0 := v135_at b i 0
theorem v135_1 (i : Fin 128) : b_v135 b (ix2 i 1) = p1 b i 1 := v135_at b i 1
theorem v135_2 (i : Fin 128) : b_v135 b (ix2 i 2) = p1 b i 2 := v135_at b i 2

theorem v158_at (i a : Fin 128) : b_v158 b (ix2 a i) = b_v135 b (ix2 i a) := by
  pointwise [b_v158, k0_pay17]
  rfl

/-- The second layer's squared distances. -/
theorem v178_at (i j : Fin 128) : b_v178 b (ix2 i j) = d2 (p1 b) i j := by
  have e : k0_pay15 (b_v3 b) (b_v114 b) (b_v133 b) = b_v135 b := rfl
  pointwise [b_v178, k0_pay21, b_v171, k0_pay18, b_v173, k0_pay19, b_v174, k0_pay20, k0_pay17]
  simp only [e, v135_0, v135_1, v135_2]
  rfl

/-- The second layer's second linear map, before its bias. -/
theorem v210_at (i j e : Fin 128) : b_v210 b (ix3 i j e) =
    ∑ k, silu (pre1 (layer b 1) (h1 b) (p1 b) i j k) * (layer b 1).We2 k e := by
  have h : k0_pay21 (b_v171 b) (b_v173 b) (b_v174 b) = b_v178 b := rfl
  pointwise [b_v210, k0_pay22]
  simp only [h, v178_at, v157_at]
  rfl

theorem v213_at (e : Fin 128) : b_v213 b (ix3 0 0 e) = (layer b 1).be2 e := by
  pointwise [b_v213, k0_pay23]
  rfl

/-- The second layer's messages. -/
theorem v217_at (i j e : Fin 128) :
    k0_pay24 (b_v210 b) (b_v213 b) (ix3 i j e) = msg (layer b 1) (h1 b) (p1 b) i j e := by
  pointwise [k0_pay24]
  rw [v210_at, v213_at]
  rfl

/-- The second layer's edge weights. -/
theorem v223_at (i j : Fin 128) :
    k0_pay25 (b_v210 b) (b_v213 b) (View.ld b.x8 r8) (ix2 i j) = cw (layer b 1) (h1 b) (p1 b) i j := by
  pointwise [k0_pay25]
  simp only [v217_at]
  rfl

theorem v226_at (i j : Fin 128) : k0_pay26 (b_v178 b) (ix2 i j) = Ideal.sqrt (d2 (p1 b) i j) + 1 := by
  pointwise [k0_pay26]
  rw [v178_at]

/-- The coordinates after the second layer. -/
def p2 : Pos := posNext (layer b 1) (h1 b) (p1 b)
/-- The features after the second layer. -/
def h2 : Feat := featNext (layer b 1) (h1 b) (p1 b)

/-- The coordinates after the second layer, on the lanes that hold them. -/
theorem v289_at (i : Fin 128) (a : Fin 3) : b_v289 b (ix2 i (lane a)) = p2 b i a := by
  pointwise [b_v289, k0_pay30, k0_pay27, k0_pay28, k0_pay29]
  simp only [v223_at, v226_at, v158_at, v135_0, v135_1, v135_2, v135_at]
  exact congrArg (_ + ·) (select_lane (step (layer b 1) (h1 b) (p1 b) i) a)

/-- The second layer leaves the other lanes as they were. -/
theorem v289_off (i n : Fin 128) (hn : 3 ≤ n.val) : b_v289 b (ix2 i n) = b.x1 (ix3 0 i n) := by
  pointwise [b_v289, k0_pay30, k0_pay27, k0_pay28, k0_pay29]
  rw [select_off n hn, add_zero, v135_off b i n hn]

/-- The features after the second layer. -/
theorem v311_at (i : Fin 128) (d : Fin 256) : b_v311 b (ix2 i d) = h2 b i d := by
  pointwise [b_v311, k0_pay32, k0_pay31]
  simp only [v217_at, v157_at]
  rfl

/-! ## The head -/

theorem v289_0 (i : Fin 128) : b_v289 b (ix2 i 0) = p2 b i 0 := v289_at b i 0
theorem v289_1 (i : Fin 128) : b_v289 b (ix2 i 1) = p2 b i 1 := v289_at b i 1
theorem v289_2 (i : Fin 128) : b_v289 b (ix2 i 2) = p2 b i 2 := v289_at b i 2

/-- The radial basis, when the coordinates' other lanes hold zero. -/
theorem v336_at (hz : ∀ i n : Fin 128, 3 ≤ n.val → b.x1 (ix3 0 i n) = 0) (i : Fin 128) (k : Fin 64) :
    b_v336 b (ix2 i k) = rbf (head b) (p2 b) i k := by
  pointwise [b_v336, k0_pay33]
  rw [sum_lanes]
  · simp only [v289_0, v289_1, v289_2]
    rw [zero_sub]
    rfl
  · intro n hn
    simp only [v289_off b _ n hn, hz _ n hn, Finset.sum_const_zero]
    rw [show Ideal.div 0 (Ideal.ofBits .f32 0x43000000#32) = 0 from zero_div_cN, sub_zero, zero_mul]

theorem v369_at (hz : ∀ i n : Fin 128, 3 ≤ n.val → b.x1 (ix3 0 i n) = 0) (i : Fin 128) (e : Fin 320) :
    k0_pay36 (b_v311 b) (b_v336 b) (View.ld b.x22 r13) (View.ld b.x23 r14) (View.ld b.x24 r15) (ix2 i e)
      = proj (head b) (head b).Wvr (head b).Wvh (head b).bv (h2 b) (p2 b) i e := by
  pointwise [k0_pay36]
  simp only [v311_at, v336_at b hz]
  rfl

/-- The exponentials of the logits. -/
theorem v379_at (hz : ∀ i n : Fin 128, 3 ≤ n.val → b.x1 (ix3 0 i n) = 0) (i j : Fin 128) :
    k0_pay37 (b_v311 b) (b_v336 b) (k0_pay34 (b_v289 b) (View.ld b.x15 r12) (View.ld b.x14 r12) (View.ld b.x16 r13))
      (k0_pay35 (View.ld b.x17 r14)) (constant S128x320 .f32 0x00000000#32) (View.ld b.x18 r15)
      (View.ld b.x19 r13) (View.ld b.x20 r14) (View.ld b.x21 r15) (ix2 i j)
      = pexp (head b) (h2 b) (p2 b) i j := by
  have e : k0_pay33 (b_v289 b) (View.ld b.x15 r12) (View.ld b.x14 r12) = b_v336 b := rfl
  pointwise [k0_pay37, k0_pay34, k0_pay35]
  simp only [e, v311_at, v336_at b hz,
    IdealRules.named_const.ideal_named_scalar (φ := .f32) κ "s" 0x3D64F92E#32 (((Real.sqrt 320)⁻¹ : ℝ) : EReal) rfl]
  rfl

/-- What the body stores: the pooled value, in every lane. -/
theorem payOut_at (hz : ∀ i n : Fin 128, 3 ≤ n.val → b.x1 (ix3 0 i n) = 0) (l : Fin 128) :
    payOut b (ix3 0 0 l) = total (layer b 0) (layer b 1) (head b) (h0 b) (p0 b) := by
  pointwise [payOut, k0_pay1]
  rw [Fin.sum_univ_one]
  simp only [v369_at b hz, v379_at b hz]
  rfl

end Cert.KernelIdeal.Val

end
-- ==== Proof.ReferenceVal.lean ====
/- The reference's values read at an index: the two layers' coordinates and features and the pooled result are the
   corresponding quantities of the specification. -/
module

public import proofs.«01_k».proof.Proof.Gen.ReferenceIdeal.Read
public import proofs.«01_k».proof.Proof.Consts

@[expose] public section

set_option maxRecDepth 16384
set_option maxHeartbeats 1000000

noncomputable section

namespace Cert.ReferenceIdeal.Val

open Cert.ReferenceIdeal Cert.ReferenceIdeal.Gen Cert.ReferenceIdeal.Read Idealize.ShloMosaic Cert.Spec

variable (x0 : Vec Ideal S4x128x256 .f32) (x1 : Vec Ideal S4x128x3 .f32) (x2 : Vec Ideal S2x513x128 .f32)
  (x3 : Vec Ideal S2x128 .f32) (x4 : Vec Ideal S2x128x128 .f32) (x5 : Vec Ideal S2x128 .f32)
  (x6 : Vec Ideal S2x128x1 .f32) (x7 : Vec Ideal S2x384x128 .f32) (x8 : Vec Ideal S2x128 .f32)
  (x9 : Vec Ideal S2x128x256 .f32) (x10 : Vec Ideal S2x256 .f32) (x11 : Vec Ideal S64 .f32)
  (x12 : Vec Ideal S64 .f32) (x13 : Vec Ideal S320x320 .f32) (x14 : Vec Ideal S320 .f32)
  (x15 : Vec Ideal S320x320 .f32) (x16 : Vec Ideal S320 .f32) (x17 : Vec Ideal S320x320 .f32)
  (x18 : Vec Ideal S320 .f32) (x19 : Vec Ideal S320x320 .f32) (x20 : Vec Ideal S320 .f32)
  (x21 : Vec Ideal S320x1 .f32) (x22 : Vec Ideal S1 .f32)

/-- Layer `l`'s weights as the arguments hold them. -/
def layer (l : Fin 2) : Layer where
  We1a d e := x2 (ix3 l ⟨d.val, by omega⟩ e)
  We1b d e := x2 (ix3 l ⟨256 + d.val, by omega⟩ e)
  wd e := x2 (ix3 l 512 e)
  be1 e := x3 (ix2 l e)
  We2 d e := x4 (ix3 l d e)
  be2 e := x5 (ix2 l e)
  Wc e := x6 (ix3 l e 0)
  Wn1a d e := x7 (ix3 l ⟨d.val, by omega⟩ e)
  Wn1b d e := x7 (ix3 l ⟨256 + d.val, by omega⟩ e)
  bn1 e := x8 (ix2 l e)
  Wn2 d e := x9 (ix3 l d e)
  bn2 e := x10 (ix2 l e)

/-- The weights after the layers as the arguments hold them. -/
def head : Head where
  cent k := x11 (ix1 k)
  gam k := x12 (ix1 k)
  Wqr d e := x13 (ix2 ⟨d.val, by omega⟩ e)
  Wqh d e := x13 (ix2 ⟨64 + d.val, by omega⟩ e)
  bq e := x14 (ix1 e)
  Wkr d e := x15 (ix2 ⟨d.val, by omega⟩ e)
  Wkh d e := x15 (ix2 ⟨64 + d.val, by omega⟩ e)
  bk e := x16 (ix1 e)
  Wvr d e := x17 (ix2 ⟨d.val, by omega⟩ e)
  Wvh d e := x17 (ix2 ⟨64 + d.val, by omega⟩ e)
  bv e := x18 (ix1 e)
  Wo d e := x19 (ix2 d e)
  bo e := x20 (ix1 e)
  Wa e := x21 (ix2 e 0)
  ba := x22 (ix1 0)

/-- The features of batch entry `b`. -/
def feat (b : Fin 4) : Feat := fun i d => x0 (ix3 b i d)
/-- The coordinates of batch entry `b`. -/
def pos (b : Fin 4) : Pos := fun i a => x1 (ix3 b i a)

/-! ## A layer -/

theorem v4_at (b : Fin 4) (i j : Fin 128) (a : Fin 3) :
    val_main_v4 (F := Ideal) x1 (ix4 b i j a) = pos x1 b i a - pos x1 b j a := by
  pointwise [val_main_v4, val_main_v3, val_main_v2, val_main_v1, val_main_v0]
  rfl

/-- The squared distances. -/
theorem v7_at (b : Fin 4) (i j : Fin 128) :
    val_main_v7 (F := Ideal) x1 (ix4 b i j 0) = d2 (pos x1 b) i j := by
  pointwise [val_main_v7, val_main_v6, val_main_v5, val_main_cst]
  rw [Fin.sum_univ_three]
  simp only [v4_at]
  rfl

/-- The bias taken in after the first of three partial sums instead of after them all. -/
theorem regroup (A B C E A' B' C' : EReal) (hA : A = A') (hB : B = B') (hC : C = C') :
    A + (B + C) + E = A' + E + B' + C' := by
  subst hA hB hC
  ac_rfl

/-- The edge network's first linear map: one contraction over the joined features and distance. -/
theorem v20_at (b : Fin 4) (i j e : Fin 128) :
    val_main_v20 (F := Ideal) x0 x1 x2 x3 (ix4 b i j e)
      = pre1 (layer x2 x3 x4 x5 x6 x7 x8 x9 x10 0) (feat x0 b) (pos x1 b) i j e := by
  pointwise [val_main_v20, val_main_v19, val_main_v18, val_main_v17, val_main_v16, val_main_v15, val_main_v14,
    val_main_v13, val_main_v12, val_main_v11, val_main_v10, val_main_v9, val_main_v8]
  rw [Fin.sum_univ_two_halves 256 257 rfl, Fin.sum_univ_two_halves 256 1 rfl, Fin.sum_univ_one]
  refine regroup _ _ _ _ _ _ _ (Finset.sum_congr rfl fun d _ => ?_) (Finset.sum_congr rfl fun d _ => ?_) ?_
  · rw [dif_pos d.isLt]
    rfl
  · have e1 : ¬ 256 + d.val < 256 := by omega
    have e2 : 256 + d.val - 256 < 256 := by omega
    rw [dif_neg e1, dif_pos e2]
    have : (⟨256 + d.val - 256, by omega⟩ : Fin 256) = d := Fin.ext (by simp)
    rw [this]
    rfl
  · rw [dif_neg (by decide), dif_neg (by decide)]
    exact congrArg (· * _) (v7_at x1 b i j)

/-- The messages. -/
theorem v42_at (b : Fin 4) (i j e : Fin 128) :
    val_main_v42 (F := Ideal) x0 x1 x2 x3 x4 x5 (ix4 b i j e)
      = msg (layer x2 x3 x4 x5 x6 x7 x8 x9 x10 0) (feat x0 b) (pos x1 b) i j e := by
  pointwise [val_main_v42, val_main_v41, val_main_v40, val_main_v39, val_main_v38, val_main_v37, val_main_v36,
    val_main_v35, val_main_v34, val_main_v33, val_main_v32, val_main_v31, val_main_v30, val_main_v29, val_main_v28,
    val_main_v27, val_main_v26, val_main_v25, val_main_v24, val_main_v23, val_main_v22, val_main_v21,
    val_main_cst_0, val_main_cst_1, val_main_cst_2, val_main_cst_3]
  simp only [v20_at x0 x1 x2 x3 x4 x5 x6 x7 x8 x9 x10]
  rfl

/-- The edge weights. -/
theorem v45_at (b : Fin 4) (i j : Fin 128) :
    val_main_v45 (F := Ideal) x0 x1 x2 x3 x4 x5 x6 (ix4 b i j 0)
      = cw (layer x2 x3 x4 x5 x6 x7 x8 x9 x10 0) (feat x0 b) (pos x1 b) i j := by
  pointwise [val_main_v45, val_main_v44, val_main_v43]
  simp only [v42_at x0 x1 x2 x3 x4 x5 x6 x7 x8 x9 x10]
  rfl

/-- The coordinates after a layer. -/
theorem v56_at (b : Fin 4) (i : Fin 128) (a : Fin 3) :
    val_main_v56 (F := Ideal) x0 x1 x2 x3 x4 x5 x6 (ix3 b i a)
      = posNext (layer x2 x3 x4 x5 x6 x7 x8 x9 x10 0) (feat x0 b) (pos x1 b) i a := by
  pointwise [val_main_v56, val_main_v55, val_main_v54, val_main_v53, val_main_v52, val_main_v51, val_main_v50,
    val_main_v49, val_main_v48, val_main_v47, val_main_v46, val_main_cst_4, val_main_cst_5, val_main_cst_6]
  simp only [v4_at, v7_at, v45_at x0 x1 x2 x3 x4 x5 x6 x7 x8 x9 x10]
  rfl

/-- The features after a layer. -/
theorem v82_at (b : Fin 4) (i : Fin 128) (d : Fin 256) :
    val_main_v82 (F := Ideal) x0 x1 x2 x3 x4 x5 x7 x8 x9 x10 (ix3 b i d)
      = featNext (layer x2 x3 x4 x5 x6 x7 x8 x9 x10 0) (feat x0 b) (pos x1 b) i d := by
  have h : ∀ e : Fin 128, val_main_v66 (F := Ideal) x0 x1 x2 x3 x4 x5 x7 x8 (ix3 b i e)
      = preN (layer x2 x3 x4 x5 x6 x7 x8 x9 x10 0) (feat x0 b) (pos x1 b) i e := fun e => by
    pointwise [val_main_v66, val_main_v65, val_main_v64, val_main_v63, val_main_v62, val_main_v61, val_main_v60,
      val_main_v59, val_main_v58, val_main_v57, val_main_cst_7]
    simp only [v42_at x0 x1 x2 x3 x4 x5 x6 x7 x8 x9 x10]
    rfl
  pointwise [val_main_v82, val_main_v81, val_main_v80, val_main_v79, val_main_v78, val_main_v77, val_main_v76,
    val_main_v75, val_main_v74, val_main_v73, val_main_v72, val_main_v71, val_main_v70, val_main_v69, val_main_v68,
    val_main_v67, val_main_cst_8, val_main_cst_9]
  simp only [h]
  rfl

/-! ## The second layer is the first layer's operations at the second layer's weights -/

/-- A stack of two arrays moved so that the second comes first. -/
def up2 {p : ℕ} (x : Vec Ideal ⟨2, ![2, p]⟩ .f32) : Vec Ideal ⟨2, ![2, p]⟩ .f32 := fun k => x (ix2 1 (k 1))
/-- The same, for a stack of matrices. -/
def up3 {p q : ℕ} (x : Vec Ideal ⟨3, ![2, p, q]⟩ .f32) : Vec Ideal ⟨3, ![2, p, q]⟩ .f32 := fun k => x (ix3 1 (k 1) (k 2))

theorem v97_eq : val_main_v97 (F := Ideal) x2 = val_main_v14 (up3 x2) := by
  funext k; idx_vars k; pointwise [val_main_v97, val_main_v96, val_main_v14, val_main_v13, up3]
theorem v100_eq : val_main_v100 (F := Ideal) x3 = val_main_v17 (up2 x3) := by
  funext k; idx_vars k; pointwise [val_main_v100, val_main_v99, val_main_v17, val_main_v16, up2]
theorem v112_eq : val_main_v112 (F := Ideal) x4 = val_main_v29 (up3 x4) := by
  funext k; idx_vars k; pointwise [val_main_v112, val_main_v111, val_main_v29, val_main_v28, up3]
theorem v115_eq : val_main_v115 (F := Ideal) x5 = val_main_v32 (up2 x5) := by
  funext k; idx_vars k; pointwise [val_main_v115, val_main_v114, val_main_v32, val_main_v31, up2]
theorem v127_eq : val_main_v127 (F := Ideal) x6 = val_main_v44 (up3 x6) := by
  funext k; idx_vars k; pointwise [val_main_v127, val_main_v126, val_main_v44, val_main_v43, up3]
theorem v143_eq : val_main_v143 (F := Ideal) x7 = val_main_v60 (up3 x7) := by
  funext k; idx_vars k; pointwise [val_main_v143, val_main_v142, val_main_v60, val_main_v59, up3]
theorem v146_eq : val_main_v146 (F := Ideal) x8 = val_main_v63 (up2 x8) := by
  funext k; idx_vars k; pointwise [val_main_v146, val_main_v145, val_main_v63, val_main_v62, up2]
theorem v158_eq : val_main_v158 (F := Ideal) x9 = val_main_v75 (up3 x9) := by
  funext k; idx_vars k; pointwise [val_main_v158, val_main_v157, val_main_v75, val_main_v74, up3]
theorem v162_eq : val_main_v162 (F := Ideal) x10 = val_main_v79 (up2 x10) := by
  funext k; idx_vars k; pointwise [val_main_v162, val_main_v161, val_main_v79, val_main_v78, up2]

/-- The features after the first layer. -/
abbrev f1 := val_main_v82 (F := Ideal) x0 x1 x2 x3 x4 x5 x7 x8 x9 x10
/-- The coordinates after the first layer. -/
abbrev c1 := val_main_v56 (F := Ideal) x0 x1 x2 x3 x4 x5 x6

theorem v87_eq : val_main_v87 (F := Ideal) x0 x1 x2 x3 x4 x5 x6 = val_main_v4 (c1 x0 x1 x2 x3 x4 x5 x6) := by
  unfold val_main_v87 val_main_v86 val_main_v85 val_main_v84 val_main_v83 c1
  generalize val_main_v56 (F := Ideal) x0 x1 x2 x3 x4 x5 x6 = c
  rfl

theorem v90_eq : val_main_v90 (F := Ideal) x0 x1 x2 x3 x4 x5 x6 = val_main_v7 (c1 x0 x1 x2 x3 x4 x5 x6) := by
  unfold val_main_v90 val_main_v89 val_main_v88 c1
  rw [v87_eq]
  rfl

theorem v95_eq : val_main_v95 (F := Ideal) x0 x1 x2 x3 x4 x5 x6 x7 x8 x9 x10
    = val_main_v12 (f1 x0 x1 x2 x3 x4 x5 x7 x8 x9 x10) (c1 x0 x1 x2 x3 x4 x5 x6) := by
  unfold val_main_v95 val_main_v94 val_main_v93 val_main_v92 val_main_v91
  rw [v90_eq]
  unfold f1 c1
  generalize val_main_v82 (F := Ideal) x0 x1 x2 x3 x4 x5 x7 x8 x9 x10 = f
  generalize val_main_v56 (F := Ideal) x0 x1 x2 x3 x4 x5 x6 = c
  rfl

/-- The second layer's messages are the first layer's, from the first layer's results. -/
theorem v125_eq : val_main_v125 (F := Ideal) x0 x1 x2 x3 x4 x5 x6 x7 x8 x9 x10
    = val_main_v42 (f1 x0 x1 x2 x3 x4 x5 x7 x8 x9 x10) (c1 x0 x1 x2 x3 x4 x5 x6)
        (up3 x2) (up2 x3) (up3 x4) (up2 x5) := by
  simp only [val_main_v125, val_main_v124, val_main_v123, val_main_v122, val_main_v121, val_main_v120, val_main_v119,
    val_main_v118, val_main_v117, val_main_v116, val_main_v113, val_main_v110, val_main_v109, val_main_v108,
    val_main_v107, val_main_v106, val_main_v105, val_main_v104, val_main_v103, val_main_v102, val_main_v101,
    val_main_v98, v95_eq, v97_eq, v100_eq, v112_eq, v115_eq]
  unfold f1 c1
  generalize val_main_v82 (F := Ideal) x0 x1 x2 x3 x4 x5 x7 x8 x9 x10 = f
  generalize val_main_v56 (F := Ideal) x0 x1 x2 x3 x4 x5 x6 = c
  simp only [val_main_v42, val_main_v41, val_main_v40, val_main_v39, val_main_v38, val_main_v37, val_main_v36,
    val_main_v35, val_main_v34, val_main_v33, val_main_v30,
    val_main_v27, val_main_v26, val_main_v25, val_main_v24, val_main_v23, val_main_v22, val_main_v21,
    val_main_v20, val_main_v19, val_main_v18, val_main_v15]
  rfl

/-- The coordinates after the second layer. -/
theorem v139_eq : val_main_v139 (F := Ideal) x0 x1 x2 x3 x4 x5 x6 x7 x8 x9 x10
    = val_main_v56 (f1 x0 x1 x2 x3 x4 x5 x7 x8 x9 x10) (c1 x0 x1 x2 x3 x4 x5 x6)
        (up3 x2) (up2 x3) (up3 x4) (up2 x5) (up3 x6) := by
  simp only [val_main_v139, val_main_v138, val_main_v136, val_main_v135, val_main_v134, val_main_v133, val_main_v132,
    val_main_v131, val_main_v129, val_main_v128, v125_eq, v127_eq, v87_eq, v90_eq]
  unfold f1 c1
  generalize val_main_v82 (F := Ideal) x0 x1 x2 x3 x4 x5 x7 x8 x9 x10 = f
  generalize val_main_v56 (F := Ideal) x0 x1 x2 x3 x4 x5 x6 = c
  simp only [val_main_v56, val_main_v55, val_main_v53, val_main_v52, val_main_v51, val_main_v50,
    val_main_v49, val_main_v48, val_main_v46, val_main_v45]
  rfl

/-- The features after the second layer. -/
theorem v165_eq : val_main_v165 (F := Ideal) x0 x1 x2 x3 x4 x5 x6 x7 x8 x9 x10
    = val_main_v82 (f1 x0 x1 x2 x3 x4 x5 x7 x8 x9 x10) (c1 x0 x1 x2 x3 x4 x5 x6)
        (up3 x2) (up2 x3) (up3 x4) (up2 x5) (up3 x7) (up2 x8) (up3 x9) (up2 x10) := by
  simp only [val_main_v165, val_main_v164, val_main_v163, val_main_v160, val_main_v159, val_main_v156, val_main_v155,
    val_main_v153, val_main_v151, val_main_v150, val_main_v149, val_main_v148, val_main_v147, val_main_v144,
    val_main_v141, val_main_v140, v143_eq, v146_eq, v158_eq, v162_eq]
  rw [v125_eq]
  unfold f1 c1
  generalize val_main_v82 (F := Ideal) x0 x1 x2 x3 x4 x5 x7 x8 x9 x10 = f
  generalize val_main_v56 (F := Ideal) x0 x1 x2 x3 x4 x5 x6 = c
  simp only [val_main_v82, val_main_v81, val_main_v80, val_main_v77, val_main_v76, val_main_v73, val_main_v72,
    val_main_v70, val_main_v68, val_main_v67, val_main_v66, val_main_v65, val_main_v64, val_main_v61,
    val_main_v58, val_main_v57]
  rfl

/-- The second layer's weights in the moved stacks are the second layer's. -/
theorem layer_up : layer (up3 x2) (up2 x3) (up3 x4) (up2 x5) (up3 x6) (up3 x7) (up2 x8) (up3 x9) (up2 x10) 0
    = layer x2 x3 x4 x5 x6 x7 x8 x9 x10 1 := rfl

/-- The coordinates after the second layer, at an index. -/
theorem v139_at (b : Fin 4) (i : Fin 128) (a : Fin 3) :
    val_main_v139 (F := Ideal) x0 x1 x2 x3 x4 x5 x6 x7 x8 x9 x10 (ix3 b i a)
      = posNext (layer x2 x3 x4 x5 x6 x7 x8 x9 x10 1)
          (featNext (layer x2 x3 x4 x5 x6 x7 x8 x9 x10 0) (feat x0 b) (pos x1 b))
          (posNext (layer x2 x3 x4 x5 x6 x7 x8 x9 x10 0) (feat x0 b) (pos x1 b)) i a := by
  have hf : feat (f1 x0 x1 x2 x3 x4 x5 x7 x8 x9 x10) b = featNext (layer x2 x3 x4 x5 x6 x7 x8 x9 x10 0) (feat x0 b) (pos x1 b) :=
    funext fun i => funext fun d => v82_at x0 x1 x2 x3 x4 x5 x6 x7 x8 x9 x10 b i d
  have hp : pos (c1 x0 x1 x2 x3 x4 x5 x6) b = posNext (layer x2 x3 x4 x5 x6 x7 x8 x9 x10 0) (feat x0 b) (pos x1 b) :=
    funext fun i => funext fun a => v56_at x0 x1 x2 x3 x4 x5 x6 x7 x8 x9 x10 b i a
  rw [v139_eq, v56_at _ _ (up3 x2) (up2 x3) (up3 x4) (up2 x5) (up3 x6) (up3 x7) (up2 x8) (up3 x9) (up2 x10) b i a,
    layer_up, hf, hp]

/-- The features after the second layer, at an index. -/
theorem v165_at (b : Fin 4) (i : Fin 128) (d : Fin 256) :
    val_main_v165 (F := Ideal) x0 x1 x2 x3 x4 x5 x6 x7 x8 x9 x10 (ix3 b i d)
      = featNext (layer x2 x3 x4 x5 x6 x7 x8 x9 x10 1)
          (featNext (layer x2 x3 x4 x5 x6 x7 x8 x9 x10 0) (feat x0 b) (pos x1 b))
          (posNext (layer x2 x3 x4 x5 x6 x7 x8 x9 x10 0) (feat x0 b) (pos x1 b)) i d := by
  have hf : feat (f1 x0 x1 x2 x3 x4 x5 x7 x8 x9 x10) b = featNext (layer x2 x3 x4 x5 x6 x7 x8 x9 x10 0) (feat x0 b) (pos x1 b) :=
    funext fun i => funext fun d => v82_at x0 x1 x2 x3 x4 x5 x6 x7 x8 x9 x10 b i d
  have hp : pos (c1 x0 x1 x2 x3 x4 x5 x6) b = posNext (layer x2 x3 x4 x5 x6 x7 x8 x9 x10 0) (feat x0 b) (pos x1 b) :=
    funext fun i => funext fun a => v56_at x0 x1 x2 x3 x4 x5 x6 x7 x8 x9 x10 b i a
  rw [v165_eq, v82_at _ _ (up3 x2) (up2 x3) (up3 x4) (up2 x5) (up3 x6) (up3 x7) (up2 x8) (up3 x9) (up2 x10) b i d,
    layer_up, hf, hp]

end Cert.ReferenceIdeal.Val

end
-- ==== Proof.ReferenceHead.lean ====
/- The reference's values after the layers, read at an index: the radial basis, the projections, the attention and the
   pooled result. -/
module

public import proofs.«01_k».proof.Proof.ReferenceVal

@[expose] public section

set_option maxRecDepth 16384
set_option maxHeartbeats 1000000

noncomputable section

namespace Cert.ReferenceIdeal.Val

open Cert.ReferenceIdeal Cert.ReferenceIdeal.Gen Cert.ReferenceIdeal.Read Idealize.ShloMosaic Cert.Spec

/-- An index of a one-row array is its column's. -/
theorem ix_row (i : S1x4.Idx) : i = ix2 0 (i 1) := by
  funext a
  match a with
  | ⟨0, _⟩ => exact Subsingleton.elim (α := Fin 1) _ _
  | ⟨1, _⟩ => rfl

/-- The arguments of @main. -/
structure Args where
  x0 : Vec Ideal S4x128x256 .f32
  x1 : Vec Ideal S4x128x3 .f32
  x2 : Vec Ideal S2x513x128 .f32
  x3 : Vec Ideal S2x128 .f32
  x4 : Vec Ideal S2x128x128 .f32
  x5 : Vec Ideal S2x128 .f32
  x6 : Vec Ideal S2x128x1 .f32
  x7 : Vec Ideal S2x384x128 .f32
  x8 : Vec Ideal S2x128 .f32
  x9 : Vec Ideal S2x128x256 .f32
  x10 : Vec Ideal S2x256 .f32
  x11 : Vec Ideal S64 .f32
  x12 : Vec Ideal S64 .f32
  x13 : Vec Ideal S320x320 .f32
  x14 : Vec Ideal S320 .f32
  x15 : Vec Ideal S320x320 .f32
  x16 : Vec Ideal S320 .f32
  x17 : Vec Ideal S320x320 .f32
  x18 : Vec Ideal S320 .f32
  x19 : Vec Ideal S320x320 .f32
  x20 : Vec Ideal S320 .f32
  x21 : Vec Ideal S320x1 .f32
  x22 : Vec Ideal S1 .f32

namespace Args

variable (A : Args)

/-- Layer `l`'s weights. -/
def W (l : Fin 2) : Layer := layer A.x2 A.x3 A.x4 A.x5 A.x6 A.x7 A.x8 A.x9 A.x10 l
/-- The weights after the layers. -/
def H : Head := head A.x11 A.x12 A.x13 A.x14 A.x15 A.x16 A.x17 A.x18 A.x19 A.x20 A.x21 A.x22
/-- The features after the layers. -/
def h2 (b : Fin 4) : Feat := featNext (A.W 1) (featNext (A.W 0) (feat A.x0 b) (pos A.x1 b)) (posNext (A.W 0) (feat A.x0 b) (pos A.x1 b))
/-- The coordinates after the layers. -/
def p2 (b : Fin 4) : Pos := posNext (A.W 1) (featNext (A.W 0) (feat A.x0 b) (pos A.x1 b)) (posNext (A.W 0) (feat A.x0 b) (pos A.x1 b))

theorem v139_at' (b : Fin 4) (i : Fin 128) (a : Fin 3) :
    val_main_v139 (F := Ideal) A.x0 A.x1 A.x2 A.x3 A.x4 A.x5 A.x6 A.x7 A.x8 A.x9 A.x10 (ix3 b i a) = A.p2 b i a :=
  v139_at A.x0 A.x1 A.x2 A.x3 A.x4 A.x5 A.x6 A.x7 A.x8 A.x9 A.x10 b i a

theorem v165_at' (b : Fin 4) (i : Fin 128) (d : Fin 256) :
    val_main_v165 (F := Ideal) A.x0 A.x1 A.x2 A.x3 A.x4 A.x5 A.x6 A.x7 A.x8 A.x9 A.x10 (ix3 b i d) = A.h2 b i d :=
  v165_at A.x0 A.x1 A.x2 A.x3 A.x4 A.x5 A.x6 A.x7 A.x8 A.x9 A.x10 b i d

/-- The radial basis. -/
theorem v187_at (b : Fin 4) (i : Fin 128) (k : Fin 64) :
    val_main_v187 (F := Ideal) A.x0 A.x1 A.x2 A.x3 A.x4 A.x5 A.x6 A.x7 A.x8 A.x9 A.x10 A.x11 A.x12 (ix3 b i k)
      = rbf A.H (A.p2 b) i k := by
  pointwise [val_main_v187, val_main_v186, val_main_v185, val_main_v184, val_main_v183, val_main_v182, val_main_v181,
    val_main_v180, val_main_v179, val_main_v178, val_main_v177, val_main_v176, val_main_v175, val_main_v174,
    val_main_v173, val_main_v172, val_main_v171, val_main_v170, val_main_v169, val_main_v168, val_main_v167,
    val_main_v166, val_main_cst_21, val_main_cst_22, val_main_cst_23, val_main_cst_24]
  rw [Fin.sum_univ_three]
  simp only [v139_at']
  rfl

/-- A projection of the joined radial basis and features: one contraction over the joined rows. -/
theorem proj_at (w : Vec Ideal S320x320 .f32) (b : Fin 4) (i : Fin 128) (e : Fin 320) :
    Host.dotGeneral (F := Ideal) (φ₁ := .f32) (φ₂ := .f32) dot_S4x128x320_S320x320_S4x128x320_2_0_01_1_n_n none
        (val_main_v188 A.x0 A.x1 A.x2 A.x3 A.x4 A.x5 A.x6 A.x7 A.x8 A.x9 A.x10 A.x11 A.x12) w (ix3 b i e)
      = ∑ k : Fin 64, rbf A.H (A.p2 b) i k * w (ix2 ⟨k.val, by omega⟩ e)
        + ∑ d : Fin 256, A.h2 b i d * w (ix2 ⟨64 + d.val, by omega⟩ e) := by
  pointwise [val_main_v188]
  simp only [v187_at, v165_at']

/-- The queries. -/
theorem v192_at (b : Fin 4) (i : Fin 128) (e : Fin 320) :
    val_main_v192 (F := Ideal) A.x0 A.x1 A.x2 A.x3 A.x4 A.x5 A.x6 A.x7 A.x8 A.x9 A.x10 A.x11 A.x12 A.x13 A.x14 (ix3 b i e)
      = proj A.H A.H.Wqr A.H.Wqh A.H.bq (A.h2 b) (A.p2 b) i e := by
  rw [val_main_v192_apply, val_main_v189, proj_at]
  pointwise [val_main_v191, val_main_v190]
  rfl

/-- The keys. -/
theorem v196_at (b : Fin 4) (i : Fin 128) (e : Fin 320) :
    val_main_v196 (F := Ideal) A.x0 A.x1 A.x2 A.x3 A.x4 A.x5 A.x6 A.x7 A.x8 A.x9 A.x10 A.x11 A.x12 A.x15 A.x16 (ix3 b i e)
      = proj A.H A.H.Wkr A.H.Wkh A.H.bk (A.h2 b) (A.p2 b) i e := by
  rw [val_main_v196_apply, val_main_v193, proj_at]
  pointwise [val_main_v195, val_main_v194]
  rfl

/-- The values. -/
theorem v200_at (b : Fin 4) (i : Fin 128) (e : Fin 320) :
    val_main_v200 (F := Ideal) A.x0 A.x1 A.x2 A.x3 A.x4 A.x5 A.x6 A.x7 A.x8 A.x9 A.x10 A.x11 A.x12 A.x17 A.x18 (ix3 b i e)
      = proj A.H A.H.Wvr A.H.Wvh A.H.bv (A.h2 b) (A.p2 b) i e := by
  rw [val_main_v200_apply, val_main_v197, proj_at]
  pointwise [val_main_v199, val_main_v198]
  rfl

/-- The scaled logits. -/
theorem v206_at (b : Fin 4) (i j : Fin 128) :
    val_main_v206 (F := Ideal) A.x0 A.x1 A.x2 A.x3 A.x4 A.x5 A.x6 A.x7 A.x8 A.x9 A.x10 A.x11 A.x12 A.x13 A.x14 A.x15 A.x16 (ix3 b i j)
      = logit A.H (A.h2 b) (A.p2 b) i j := by
  pointwise [val_main_v206, val_main_v205, val_main_v204, val_main_v203, val_main_cst_25, val_main_v202, val_main_v201]
  simp only [v192_at, v196_at]
  exact div_sqrt320 _

/-- The exponentials of the logits. -/
theorem v213_at (b : Fin 4) (i j : Fin 128) :
    val_main_v213 (F := Ideal) A.x0 A.x1 A.x2 A.x3 A.x4 A.x5 A.x6 A.x7 A.x8 A.x9 A.x10 A.x11 A.x12 A.x13 A.x14 A.x15 A.x16 (ix3 b i j)
      = pexp A.H (A.h2 b) (A.p2 b) i j := by
  pointwise [val_main_v213, val_main_v212, val_main_v211, val_main_v210, val_main_v209, val_main_v208, val_main_v207,
    val_main_cst_26, val_main_cst_27]
  simp only [v206_at]
  rfl

/-- The attention block's result. -/
theorem v222_at (b : Fin 4) (i : Fin 128) (e : Fin 320) :
    val_main_v222 (F := Ideal) A.x0 A.x1 A.x2 A.x3 A.x4 A.x5 A.x6 A.x7 A.x8 A.x9 A.x10 A.x11 A.x12 A.x13 A.x14 A.x15 A.x16
        A.x17 A.x18 A.x19 A.x20 (ix3 b i e)
      = tok A.H (A.h2 b) (A.p2 b) i e := by
  pointwise [val_main_v222, val_main_v221, val_main_v220, val_main_v219, val_main_v218, val_main_v217, val_main_v216,
    val_main_v215, val_main_v214, val_main_cst_28]
  simp only [v213_at, v200_at]
  rfl

/-- The reference's result at batch entry `b` is the specification's value. -/
theorem v228_at (b : Fin 4) :
    val_main_v228 (F := Ideal) A.x0 A.x1 A.x2 A.x3 A.x4 A.x5 A.x6 A.x7 A.x8 A.x9 A.x10 A.x11 A.x12 A.x13 A.x14 A.x15 A.x16
        A.x17 A.x18 A.x19 A.x20 A.x21 A.x22 (ix2 0 b)
      = total (A.W 0) (A.W 1) A.H (feat A.x0 b) (pos A.x1 b) := by
  pointwise [val_main_v228, val_main_v227, val_main_v226, val_main_v225, val_main_v224, val_main_v223, val_main_cst_29]
  simp only [v222_at]
  rfl

/-- The result on the arguments: one value per batch entry. -/
def out : Vec Ideal S1x4 .f32 := fun i => total (A.W 0) (A.W 1) A.H (feat A.x0 (i 1)) (pos A.x1 (i 1))

/-- The reference's result, as an array. -/
theorem v228_eq : val_main_v228 (F := Ideal) A.x0 A.x1 A.x2 A.x3 A.x4 A.x5 A.x6 A.x7 A.x8 A.x9 A.x10 A.x11 A.x12 A.x13
    A.x14 A.x15 A.x16 A.x17 A.x18 A.x19 A.x20 A.x21 A.x22 = A.out := by
  funext i
  rw [ix_row i]
  exact A.v228_at (i 1)

end Args

end Cert.ReferenceIdeal.Val

end
-- ==== Proof.KernelIn.lean ====
/- What each input window of the kernel holds at a grid point, as entries of the arguments as launched. -/
module

public import proofs.«01_k».proof.Defs
public import proofs.«01_k».proof.Proof.Gen.KernelIdeal.Launch
public import proofs.«01_k».proof.Proof.Gen.KernelIdeal.Points
public import proofs.«01_k».proof.Proof.Gen.KernelIdeal.Frame
public import proofs.«01_k».proof.Proof.ReferenceHead
public import Idealize.ShloMosaic.Lib.Pipeline.ValueKit
public import Idealize.ShloMosaic.Lib.StableHlo.ReadAt
public import Idealize.ShloMosaic.Lib.Pointwise
public import Idealize.ShloMosaic.Lib.Claim

@[expose] public section

noncomputable section

namespace Cert.KernelIdeal.In

open Cert.KernelIdeal.Gen
open Idealize.ShloMosaic Idealize.ShloMosaic.TcCoe Idealize.ShloMosaic.Tactic
open Idealize.SL.Sem

variable (m : (ℓ : Loc nD τ sig) → Buf (Elt Ideal) ℓ)

/-- The arguments as launched on core `c`. -/
def args (c : Dev nD) : Cert.ReferenceIdeal.Val.Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22)⟩

/-- The batch a grid point works on. -/
def bat (t : Fin cfg0.N) : Fin 4 := ⟨t.val, t.isLt⟩

/-! ## Block indices -/

/-- The batched windows' block indices: the grid point on the leading axis. -/
theorem idxB : ∀ t : Fin cfg0.N, win0_0.index t = ![t.val, 0, 0] ∧ win0_1.index t = ![t.val, 0, 0]
    ∧ win0_29.index t = ![t.val, 0, 0] :=
  (by decide +kernel : ∀ t : Fin grid0.N, _)

/-- The layers' weights are whole at every point. -/
theorem idxL : ∀ t : Fin cfg0.N, win0_2.index t = ![0, 0, 0] ∧ win0_3.index t = ![0, 0, 0]
    ∧ win0_4.index t = ![0, 0, 0] ∧ win0_5.index t = ![0, 0, 0]
    ∧ win0_6.index t = ![0, 0, 0] ∧ win0_7.index t = ![0, 0, 0] :=
  (by decide +kernel : ∀ t : Fin grid0.N, _)

/-- The layers' remaining weights are whole at every point. -/
theorem idxM : ∀ t : Fin cfg0.N, win0_8.index t = ![0, 0, 0] ∧ win0_9.index t = ![0, 0, 0]
    ∧ win0_10.index t = ![0, 0, 0] ∧ win0_11.index t = ![0, 0, 0]
    ∧ win0_12.index t = ![0, 0, 0] ∧ win0_13.index t = ![0, 0, 0] :=
  (by decide +kernel : ∀ t : Fin grid0.N, _)

/-- The weights after the layers are whole at every point. -/
theorem idxH : ∀ t : Fin cfg0.N, win0_14.index t = ![0, 0] ∧ win0_15.index t = ![0, 0] ∧ win0_16.index t = ![0, 0]
    ∧ win0_17.index t = ![0, 0] ∧ win0_18.index t = ![0, 0] ∧ win0_19.index t = ![0, 0]
    ∧ win0_20.index t = ![0, 0] ∧ win0_21.index t = ![0, 0] :=
  (by decide +kernel : ∀ t : Fin grid0.N, _)

/-- The remaining weights after the layers are whole at every point. -/
theorem idxK : ∀ t : Fin cfg0.N, win0_22.index t = ![0, 0] ∧ win0_23.index t = ![0, 0] ∧ win0_24.index t = ![0, 0]
    ∧ win0_25.index t = ![0, 0] ∧ win0_26.index t = ![0, 0] ∧ win0_27.index t = ![0, 0]
    ∧ win0_28.index t = ![0, 0] :=
  (by decide +kernel : ∀ t : Fin grid0.N, _)

/-! ## The windows -/

/-- Window 0 holds the batch's features. -/
theorem in0 (c : Dev nD) (t : Fin cfg0.N) (i : Fin 128) (d : Fin 256) :
    iblk m c 0 t (ix3 0 i d) = (args m c).x0 (ix3 (bat t) i d) :=
  (by unfold bat; blk_ext [iblk, idxB t] : _ = V m c main_arg0 (ix3 (bat t) i d)).trans (by rw [V_main_arg0]; rfl)

/-- Window 1 holds the batch's coordinates in its first three lanes and zero in the others. -/
theorem in1 (c : Dev nD) (t : Fin cfg0.N) (i n : Fin 128) :
    iblk m c 1 t (ix3 0 i n) = if h : n.val < 3 then (args m c).x1 (ix3 (bat t) i ⟨n.val, h⟩) else 0 := by
  refine (by unfold bat; blk_ext [iblk, idxB t] : _ = V m c main_v0 (ix3 (bat t) i n)).trans ?_
  unfold V V0
  after_reads_at
  have hz : FloatOps.sitofp (F := Ideal) FTy.f32 (0#32) = 0 := by
    show (((0#32 : BitVec 32).toInt : ℝ) : EReal) = 0
    simp
  rw [hz]
  rfl

/-- Window 2 holds the first 256 rows of the edge network's first weights. -/
theorem in2 (c : Dev nD) (t : Fin cfg0.N) (l : Fin 2) (d : Fin 256) (e : Fin 128) : iblk m c 2 t (ix3 l d e) = (args m c).x2 (ix3 l ⟨d.val, by omega⟩ e) :=
  (by blk_ext [iblk, idxL t] : _ = V m c main_v1 (ix3 l d e)).trans (by unfold V V0; after_reads_at; rfl)

/-- Window 3 holds the next 256 rows of the edge network's first weights. -/
theorem in3 (c : Dev nD) (t : Fin cfg0.N) (l : Fin 2) (d : Fin 256) (e : Fin 128) : iblk m c 3 t (ix3 l d e) = (args m c).x2 (ix3 l ⟨256 + d.val, by omega⟩ e) :=
  (by blk_ext [iblk, idxL t] : _ = V m c main_v2 (ix3 l d e)).trans (by unfold V V0; after_reads_at; rfl)

/-- Window 4 holds the last row of the edge network's first weights. -/
theorem in4 (c : Dev nD) (t : Fin cfg0.N) (l : Fin 2) (e : Fin 128) : iblk m c 4 t (ix3 l 0 e) = (args m c).x2 (ix3 l 512 e) :=
  (by blk_ext [iblk, idxL t] : _ = V m c main_v5 (ix3 l 0 e)).trans (by unfold V V0; after_reads_at; rfl)

/-- Window 5 holds the edge network's first bias. -/
theorem in5 (c : Dev nD) (t : Fin cfg0.N) (l : Fin 2) (e : Fin 128) : iblk m c 5 t (ix3 l 0 e) = (args m c).x3 (ix2 l e) :=
  (by blk_ext [iblk, idxL t] : _ = V m c main_v6 (ix3 l 0 e)).trans (by unfold V V0; after_reads_at; rfl)

/-- Window 6 holds the edge network's second weights. -/
theorem in6 (c : Dev nD) (t : Fin cfg0.N) (l : Fin 2) (d e : Fin 128) : iblk m c 6 t (ix3 l d e) = (args m c).x4 (ix3 l d e) :=
  (by blk_ext [iblk, idxL t] : _ = V m c main_arg4 (ix3 l d e)).trans (by rw [V_main_arg4]; rfl)

/-- Window 7 holds the edge network's second bias. -/
theorem in7 (c : Dev nD) (t : Fin cfg0.N) (l : Fin 2) (e : Fin 128) : iblk m c 7 t (ix3 l 0 e) = (args m c).x5 (ix2 l e) :=
  (by blk_ext [iblk, idxL t] : _ = V m c main_v7 (ix3 l 0 e)).trans (by unfold V V0; after_reads_at; rfl)

/-- Window 8 holds the coordinate weights. -/
theorem in8 (c : Dev nD) (t : Fin cfg0.N) (l : Fin 2) (e : Fin 128) : iblk m c 8 t (ix3 l 0 e) = (args m c).x6 (ix3 l e 0) :=
  (by blk_ext [iblk, idxM t] : _ = V m c main_v9 (ix3 l 0 e)).trans (by unfold V V0; after_reads_at; rfl)

/-- Window 9 holds the first 256 rows of the node network's first weights. -/
theorem in9 (c : Dev nD) (t : Fin cfg0.N) (l : Fin 2) (d : Fin 256) (e : Fin 128) : iblk m c 9 t (ix3 l d e) = (args m c).x7 (ix3 l ⟨d.val, by omega⟩ e) :=
  (by blk_ext [iblk, idxM t] : _ = V m c main_v10 (ix3 l d e)).trans (by unfold V V0; after_reads_at; rfl)

/-- Window 10 holds the last 128 rows of the node network's first weights. -/
theorem in10 (c : Dev nD) (t : Fin cfg0.N) (l : Fin 2) (d e : Fin 128) : iblk m c 10 t (ix3 l d e) = (args m c).x7 (ix3 l ⟨256 + d.val, by omega⟩ e) :=
  (by blk_ext [iblk, idxM t] : _ = V m c main_v11 (ix3 l d e)).trans (by unfold V V0; after_reads_at; rfl)

/-- Window 11 holds the node network's first bias. -/
theorem in11 (c : Dev nD) (t : Fin cfg0.N) (l : Fin 2) (e : Fin 128) : iblk m c 11 t (ix3 l 0 e) = (args m c).x8 (ix2 l e) :=
  (by blk_ext [iblk, idxM t] : _ = V m c main_v12 (ix3 l 0 e)).trans (by unfold V V0; after_reads_at; rfl)

/-- Window 12 holds the node network's second weights. -/
theorem in12 (c : Dev nD) (t : Fin cfg0.N) (l : Fin 2) (d : Fin 128) (e : Fin 256) : iblk m c 12 t (ix3 l d e) = (args m c).x9 (ix3 l d e) :=
  (by blk_ext [iblk, idxM t] : _ = V m c main_arg9 (ix3 l d e)).trans (by rw [V_main_arg9]; rfl)

/-- Window 13 holds the node network's second bias. -/
theorem in13 (c : Dev nD) (t : Fin cfg0.N) (l : Fin 2) (e : Fin 256) : iblk m c 13 t (ix3 l 0 e) = (args m c).x10 (ix2 l e) :=
  (by blk_ext [iblk, idxM t] : _ = V m c main_v13 (ix3 l 0 e)).trans (by unfold V V0; after_reads_at; rfl)

/-- Window 14 holds the radial centers. -/
theorem in14 (c : Dev nD) (t : Fin cfg0.N) (k : Fin 64) : iblk m c 14 t (ix2 0 k) = (args m c).x11 (ix1 k) :=
  (by blk_ext [iblk, idxH t] : _ = V m c main_v14 (ix2 0 k)).trans (by unfold V V0; after_reads_at; rfl)

/-- Window 15 holds the radial widths. -/
theorem in15 (c : Dev nD) (t : Fin cfg0.N) (k : Fin 64) : iblk m c 15 t (ix2 0 k) = (args m c).x12 (ix1 k) :=
  (by blk_ext [iblk, idxH t] : _ = V m c main_v15 (ix2 0 k)).trans (by unfold V V0; after_reads_at; rfl)

/-- Window 16 holds the radial rows of the query weights. -/
theorem in16 (c : Dev nD) (t : Fin cfg0.N) (d : Fin 64) (e : Fin 320) : iblk m c 16 t (ix2 d e) = (args m c).x13 (ix2 ⟨d.val, by omega⟩ e) :=
  (by blk_ext [iblk, idxH t] : _ = V m c main_v19 (ix2 d e)).trans (by unfold V V0; after_reads_at; rfl)

/-- Window 17 holds the feature rows of the query weights. -/
theorem in17 (c : Dev nD) (t : Fin cfg0.N) (d : Fin 256) (e : Fin 320) : iblk m c 17 t (ix2 d e) = (args m c).x13 (ix2 ⟨64 + d.val, by omega⟩ e) :=
  (by blk_ext [iblk, idxH t] : _ = V m c main_v20 (ix2 d e)).trans (by unfold V V0; after_reads_at; rfl)

/-- Window 18 holds the query bias. -/
theorem in18 (c : Dev nD) (t : Fin cfg0.N) (e : Fin 320) : iblk m c 18 t (ix2 0 e) = (args m c).x14 (ix1 e) :=
  (by blk_ext [iblk, idxH t] : _ = V m c main_v21 (ix2 0 e)).trans (by unfold V V0; after_reads_at; rfl)

/-- Window 19 holds the radial rows of the key weights. -/
theorem in19 (c : Dev nD) (t : Fin cfg0.N) (d : Fin 64) (e : Fin 320) : iblk m c 19 t (ix2 d e) = (args m c).x15 (ix2 ⟨d.val, by omega⟩ e) :=
  (by blk_ext [iblk, idxH t] : _ = V m c main_v22 (ix2 d e)).trans (by unfold V V0; after_reads_at; rfl)

/-- Window 20 holds the feature rows of the key weights. -/
theorem in20 (c : Dev nD) (t : Fin cfg0.N) (d : Fin 256) (e : Fin 320) : iblk m c 20 t (ix2 d e) = (args m c).x15 (ix2 ⟨64 + d.val, by omega⟩ e) :=
  (by blk_ext [iblk, idxH t] : _ = V m c main_v23 (ix2 d e)).trans (by unfold V V0; after_reads_at; rfl)

/-- Window 21 holds the key bias. -/
theorem in21 (c : Dev nD) (t : Fin cfg0.N) (e : Fin 320) : iblk m c 21 t (ix2 0 e) = (args m c).x16 (ix1 e) :=
  (by blk_ext [iblk, idxH t] : _ = V m c main_v24 (ix2 0 e)).trans (by unfold V V0; after_reads_at; rfl)

/-- Window 22 holds the radial rows of the value weights. -/
theorem in22 (c : Dev nD) (t : Fin cfg0.N) (d : Fin 64) (e : Fin 320) : iblk m c 22 t (ix2 d e) = (args m c).x17 (ix2 ⟨d.val, by omega⟩ e) :=
  (by blk_ext [iblk, idxK t] : _ = V m c main_v25 (ix2 d e)).trans (by unfold V V0; after_reads_at; rfl)

/-- Window 23 holds the feature rows of the value weights. -/
theorem in23 (c : Dev nD) (t : Fin cfg0.N) (d : Fin 256) (e : Fin 320) : iblk m c 23 t (ix2 d e) = (args m c).x17 (ix2 ⟨64 + d.val, by omega⟩ e) :=
  (by blk_ext [iblk, idxK t] : _ = V m c main_v26 (ix2 d e)).trans (by unfold V V0; after_reads_at; rfl)

/-- Window 24 holds the value bias. -/
theorem in24 (c : Dev nD) (t : Fin cfg0.N) (e : Fin 320) : iblk m c 24 t (ix2 0 e) = (args m c).x18 (ix1 e) :=
  (by blk_ext [iblk, idxK t] : _ = V m c main_v27 (ix2 0 e)).trans (by unfold V V0; after_reads_at; rfl)

/-- Window 25 holds the output weights. -/
theorem in25 (c : Dev nD) (t : Fin cfg0.N) (d e : Fin 320) : iblk m c 25 t (ix2 d e) = (args m c).x19 (ix2 d e) :=
  (by blk_ext [iblk, idxK t] : _ = V m c main_arg19 (ix2 d e)).trans (by rw [V_main_arg19]; rfl)

/-- Window 26 holds the output bias. -/
theorem in26 (c : Dev nD) (t : Fin cfg0.N) (e : Fin 320) : iblk m c 26 t (ix2 0 e) = (args m c).x20 (ix1 e) :=
  (by blk_ext [iblk, idxK t] : _ = V m c main_v28 (ix2 0 e)).trans (by unfold V V0; after_reads_at; rfl)

/-- Window 27 holds the aggregator weights. -/
theorem in27 (c : Dev nD) (t : Fin cfg0.N) (e : Fin 320) : iblk m c 27 t (ix2 0 e) = (args m c).x21 (ix2 e 0) :=
  (by blk_ext [iblk, idxK t] : _ = V m c main_v17 (ix2 0 e)).trans (by unfold V V0; after_reads_at; rfl)

/-- Window 28 holds the aggregator bias. -/
theorem in28 (c : Dev nD) (t : Fin cfg0.N) : iblk m c 28 t (ix2 0 0) = (args m c).x22 (ix1 0) :=
  (by blk_ext [iblk, idxK t] : _ = V m c main_v18 (ix2 0 0)).trans (by unfold V V0; after_reads_at; rfl)

end Cert.KernelIdeal.In

end
-- ==== Proof.KernelOut.lean ====
/- The kernel's result array after the run: every lane of a batch entry's row holds the value that `Cert.Spec.total`
   gives on the arguments as launched, and the algebraic claim. -/
module

public import proofs.«01_k».proof.Defs
public import proofs.«01_k».proof.Proof.KernelIdealRun
public import proofs.«01_k».proof.Proof.KernelVal
public import proofs.«01_k».proof.Proof.KernelIn
public import proofs.«01_k».proof.Proof.Gen.ReferenceIdeal.Run
public import proofs.«01_k».proof.Proof.Gen.ReferenceIdeal.Read
public import Idealize.ShloMosaic.Lib.Pipeline.ValueKit
public import Idealize.ShloMosaic.Lib.StableHlo.ReadAt
public import Idealize.ShloMosaic.Lib.Claim

@[expose] public section

noncomputable section

namespace Cert.KernelIdeal.Out

open Cert.KernelIdeal.Gen Cert.KernelIdeal.Run Cert.KernelIdeal.Val Cert.KernelIdeal.In
open Idealize.ShloMosaic Idealize.ShloMosaic.TcCoe Idealize.ShloMosaic.Tactic
open Idealize.SL.Sem Cert.Spec

variable (m : (ℓ : Loc nD τ sig) → Buf (Elt Ideal) ℓ)

/-- The blocks hold layer `l`'s weights. -/
theorem layer_eq (c : Dev nD) (t : Fin cfg0.N) (l : Fin 2) : layer (blocks m c t) l = (args m c).W l := by
  simp only [layer, blocks, in2, in3, in4, in5, in6, in7, in8, in9, in10, in11, in12, in13]
  rfl

/-- The blocks hold the weights after the layers. -/
theorem head_eq (c : Dev nD) (t : Fin cfg0.N) : head (blocks m c t) = (args m c).H := by
  simp only [head, blocks, in14, in15, in16, in17, in18, in19, in20, in21, in22, in23, in24, in25, in26, in27, in28]
  rfl

/-- The blocks hold the batch's features. -/
theorem h0_eq (c : Dev nD) (t : Fin cfg0.N) :
    h0 (blocks m c t) = Cert.ReferenceIdeal.Val.feat (args m c).x0 (bat t) := by
  funext i d
  exact in0 m c t i d

/-- The blocks hold the batch's coordinates. -/
theorem p0_eq (c : Dev nD) (t : Fin cfg0.N) :
    p0 (blocks m c t) = Cert.ReferenceIdeal.Val.pos (args m c).x1 (bat t) := by
  funext i a
  exact (in1 m c t i (lane a)).trans (dif_pos a.isLt)

/-- The coordinates' lanes past the third are zero. -/
theorem pad_zero (c : Dev nD) (t : Fin cfg0.N) (i n : Fin 128) (h : 3 ≤ n.val) : (blocks m c t).x1 (ix3 0 i n) = 0 :=
  (in1 m c t i n).trans (dif_neg (by omega))

/-- The stored block at a point: the batch entry's result in every lane. -/
theorem pay_eq (c : Dev nD) (t : Fin cfg0.N) (l : Fin 128) :
    payOut (blocks m c t) (ix3 0 0 l) = (args m c).out (ix2 0 (bat t)) := by
  rw [payOut_at _ (pad_zero m c t), layer_eq, layer_eq, head_eq, h0_eq, p0_eq]
  rfl

/-- The output window's array as the region leaves it: each batch entry's result in every lane of its row. -/
def arr (c : Dev nD) : Vec Ideal S4x1x128 .f32 := fun i => (args m c).out (ix2 0 (i 0))

/-- The output window's array after the run. -/
theorem arrAt_eq (c : Dev nD) : (dats m 0 c).arrAt 29 cfg0.N = arr m c := by
  refine (dats m 0 c).arrAt_eq_of_covers 29 _ (by decide +kernel) fun t hf y => ?_
  blk_simp
  rw [after_29]
  unfold blockOut
  frame_out
  have hy : ∀ y : S1x1x128.Idx, payOut (blocks m c t) y = (args m c).out (ix2 0 (bat t)) := fun y => by
    have e : y = ix3 0 0 (y 2) := by
      funext a
      match a with
      | ⟨0, _⟩ => exact Subsingleton.elim (α := Fin 1) _ _
      | ⟨1, _⟩ => exact Subsingleton.elim (α := Fin 1) _ _
      | ⟨2, _⟩ => rfl
    rw [e]
    exact pay_eq m c t (y 2)
  refine (hy y).trans (congrArg (fun b => (args m c).out (ix2 0 b)) (Fin.ext ?_))
  unfold bat
  blk_simp [idxB t]

/-- The result buffer after the host operations that follow the region: entry `b` is lane 0 of row `b` of the output
    window's array. -/
theorem tail_at (c : Dev nD) (i : S1x4.Idx) :
    Pipeline.afterTail₀ cfgs (dats m) 0 (V0 m) [hostOps1] c main_v32 i = (dats m 0 c).arrAt 29 cfg0.N (ix3 (i 1) 0 0) := by
  rw [Cert.ReferenceIdeal.Val.ix_row i]
  rw [← Pipeline.withArrays_arr (Val := Elt Ideal) spec0 (by decide) c (V0 m c) (fun w => (dats m 0 c).arrAt w cfg0.N) 29]
  unfold Pipeline.afterTail₀
  generalize Pipeline.withArrays _ c (V0 m c) _ = W
  after_reads_at

/-- Started on the same arguments, the kernel's program and the reference's both run, and end with the same result. -/
theorem algebraic : Cert.algebraic_KernelIdeal_ReferenceIdeal := by
  intro m g m' g' _ hagree
  refine ⟨fun c => (args m c).out, ?_, ?_⟩
  · refine (θ_run defs _ _).mono (fun r h c => ⟨((h.1 c).2 main_v32 (by decide)).trans ?_, h.2 c⟩)
      (θ_run_and (run_main m g) (frame_of m g (dats m) (A_eq m) (run_main m g)))
    funext i
    rw [tail_at, arrAt_eq]
    exact congrArg (args m c).out (Cert.ReferenceIdeal.Val.ix_row i).symm
  · refine (θ_run Cert.ReferenceIdeal.defs _ _).mono (fun _ h c => ⟨(h c).1.trans ?_, (h c).2⟩)
      (Cert.ReferenceIdeal.Value.run (F := Ideal) m' g')
    rw [Cert.ReferenceIdeal.Read.val_main_v228_eq]
    simp only [StableHlo.launchContents_devRef, hagree c]
    exact (args m c).v228_eq

end Cert.KernelIdeal.Out

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelIdealRun
public import proofs.«01_k».proof.Proof.KernelOut
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's frame: its run leaves the arguments as launched, and it has no semaphore. -/
theorem frameRI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- All five claims. -/
theorem claim : Cert.Claim := ⟨Cert.Kernel.Gen.facts, Cert.KernelIdeal.Gen.facts, Cert.ReferenceIdeal.Gen.facts,
  Cert.Kernel.Run.frame, Cert.KernelIdeal.Run.frame, frameRI,
  IdealRules.named_const.statement Cert.KernelIdeal.κ "s" .f32 0x3D64F92E#32 (((Real.sqrt 320)⁻¹ : ℝ) : EReal) rfl,
  Cert.KernelIdeal.Out.algebraic⟩

end Cert.Proof

end
